-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_in_range [hPre_boxes_in_range : Cert.Pre_boxes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_range [hPre_boxes_in_range : Cert.Pre_boxes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_in_range [hKernelIdeal : Cert.KernelIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_in_range [hReferenceIdeal : Cert.ReferenceIdeal.Facts] [hPre_boxes_in_range : Cert.Pre_boxes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_in_range [hKernelIdeal : Cert.KernelIdeal.Facts] [hReferenceIdeal : Cert.ReferenceIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189_1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_in_range : Cert.Pre_boxes_in_range.Facts),
    quiescent_Kernel (hKernel := hKernel)
    ∧ quiescent_KernelIdeal (hKernelIdeal := hKernelIdeal)
    ∧ quiescent_KernelIdeal_pre_boxes_in_range (hKernelIdeal := hKernelIdeal) (hPre_boxes_in_range := hPre_boxes_in_range)
    ∧ quiescent_ReferenceIdeal (hReferenceIdeal := hReferenceIdeal)
    ∧ quiescent_ReferenceIdeal_pre_boxes_in_range (hReferenceIdeal := hReferenceIdeal) (hPre_boxes_in_range := hPre_boxes_in_range)
    ∧ preserves_Kernel_KernelIdeal
    ∧ algebraic_KernelIdeal_ReferenceIdeal_pre_boxes_in_range (hKernelIdeal := hKernelIdeal) (hReferenceIdeal := hReferenceIdeal) (hPre_boxes_in_range := hPre_boxes_in_range)
-- ==== Pre_boxes_in_range.lean ====
abbrev S1000x5 : Shape := ⟨2, ![1000, 5]⟩
abbrev S1000 : Shape := ⟨1, ![1000]⟩
abbrev S1000x2 : Shape := ⟨2, ![1000, 2]⟩
abbrev S_ : Shape := ⟨0, ![]⟩

class Facts : Prop where
  slices_S1000x5_S1000x2_0_2 : S1000x5.Slices ![0, 2] S1000x2
  bcast_S_S1000x2 : S_.BroadcastsInDim S1000x2 (![] : Fin 0 → Fin S1000x2.rank)
  reducesTo_S1000x2_S_d0_1 : S1000x2.ReducesTo [0, 1] S_
  h_S_ : 0 < S_.numel
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S1000x5 .f32) (main_arg1 : FVec F S1000 .f32) : IVec S_ 1 :=
  let main_v0 : FVec F S1000x2 .f32 := (extractStridedSlice S1000x2 ![0, 2] · slices_S1000x5_S1000x2_0_2) main_arg0
  let main_cst : FVec F S_ .f32 := constant S_ .f32 0x00000000#32
  let main_v1 : FVec F S1000x2 .f32 := broadcastInDim S1000x2 ![] bcast_S_S1000x2 main_cst
  let main_v2 : IVec S1000x2 1 := cmpf .oeq main_v0 main_v1
  let main_cst_0 : FVec F S_ .f32 := constant S_ .f32 0x26D82C3B#32
  let main_v3 : FVec F S1000x2 .f32 := broadcastInDim S1000x2 ![] bcast_S_S1000x2 main_cst_0
  let main_v4 : IVec S1000x2 1 := cmpf .oge main_v0 main_v3
  let main_v5 : IVec S1000x2 1 := ori main_v2 main_v4
  let main_c : IVec S_ 1 := constantI S_ 1 1#1
  let main_v6 : IVec S_ 1 := (fun x v => Host.reduce IntOp.andi x v reducesTo_S1000x2_S_d0_1 h_S_) main_v5 main_c
  let main_cst_1 : FVec F S_ .f32 := constant S_ .f32 0xF149F2CA#32
  let main_v7 : FVec F S1000 .f32 := broadcastInDim S1000 ![] bcast_S_S1000 main_cst_1
  let main_v8 : IVec S1000 1 := cmpf .oge main_arg1 main_v7
  let main_c_2 : IVec S_ 1 := constantI S_ 1 1#1
  let main_v9 : IVec S_ 1 := (fun x v => Host.reduce IntOp.andi x v reducesTo_S1000_S_d0 h_S_) main_v8 main_c_2
  let main_v10 : IVec S_ 1 := andi main_v6 main_v9
  main_v10
-- ==== Kernel.lean ====
abbrev S1000x5 : Shape := ⟨2, ![1000, 5]⟩
abbrev S1000 : Shape := ⟨1, ![1000]⟩
abbrev S_ : Shape := ⟨0, ![]⟩
abbrev S24 : Shape := ⟨1, ![24]⟩
abbrev S1024 : Shape := ⟨1, ![1024]⟩
abbrev S1024x16 : Shape := ⟨2, ![1024, 16]⟩
abbrev S1000x4 : Shape := ⟨2, ![1000, 4]⟩
abbrev S1 : Shape := ⟨1, ![1]⟩
abbrev S2 : Shape := ⟨1, ![2]⟩
abbrev S1000x1 : Shape := ⟨2, ![1000, 1]⟩
abbrev S16x1024 : Shape := ⟨2, ![16, 1024]⟩
abbrev S1x1024 : Shape := ⟨2, ![1, 1024]⟩
abbrev S1024x1 : Shape := ⟨2, ![1024, 1]⟩
abbrev S1024x1024 : Shape := ⟨2, ![1024, 1024]⟩
abbrev S128x16 : Shape := ⟨2, ![128, 16]⟩
abbrev S128x1 : Shape := ⟨2, ![128, 1]⟩
abbrev S128x1024 : Shape := ⟨2, ![128, 1024]⟩
abbrev S1x1x1024 : Shape := ⟨3, ![1, 1, 1024]⟩
abbrev S1x1x1 : Shape := ⟨3, ![1, 1, 1]⟩

abbrev nBuf : Space → Nat
  | .hbm => 44
  | .vmem => 7
  | .smem => 0
  | _ => 0

abbrev bufTy : (tb : Table) → Fin (tcTables nBuf tb) → BufTy
  | .hbm, ⟨0, _⟩ => ⟨S1000x5, .f32⟩
  | .hbm, ⟨1, _⟩ => ⟨S1000, .f32⟩
  | .hbm, ⟨2, _⟩ => ⟨S_, .f32⟩
  | .hbm, ⟨3, _⟩ => ⟨S24, .f32⟩
  | .hbm, ⟨4, _⟩ => ⟨S1024, .f32⟩
  | .hbm, ⟨5, _⟩ => ⟨S_, .f32⟩
  | .hbm, ⟨6, _⟩ => ⟨S1024x16, .f32⟩
  | .hbm, ⟨7, _⟩ => ⟨S1000x4, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1024x16, .f32⟩
  | .hbm, ⟨14, _⟩ => ⟨S1000x1, .f32⟩
  | .hbm, ⟨15, _⟩ => ⟨S1000, .f32⟩
  | .hbm, ⟨16, _⟩ => ⟨S1000, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1024x16, .f32⟩
  | .hbm, ⟨23, _⟩ => ⟨S1000x1, .f32⟩
  | .hbm, ⟨24, _⟩ => ⟨S1000, .f32⟩
  | .hbm, ⟨25, _⟩ => ⟨S1000, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S1024x16, .f32⟩
  | .hbm, ⟨32, _⟩ => ⟨S1024, .f32⟩
  | .hbm, ⟨33, _⟩ => ⟨S_, .i32⟩
  | .hbm, ⟨34, _⟩ => ⟨S1, .i32⟩
  | .hbm, ⟨35, _⟩ => ⟨S1024x16, .f32⟩
  | .hbm, ⟨36, _⟩ => ⟨S_, .i32⟩
  | .hbm, ⟨37, _⟩ => ⟨S1, .i32⟩
  | .hbm, ⟨38, _⟩ => ⟨S1024x16, .f32⟩
  | .hbm, ⟨39, _⟩ => ⟨S16x1024, .f32⟩
  | .hbm, ⟨40, _⟩ => ⟨S1x1024, .f32⟩
  | .hbm, ⟨41, _⟩ => ⟨S1024x1, .i32⟩
  | .hbm, ⟨42, _⟩ => ⟨S1000x1, .i32⟩
  | .hbm, ⟨43, _⟩ => ⟨S1000, .i32⟩
  | .local _ .vmem, ⟨0, _⟩ => ⟨S1x1024, .f32⟩
  | .local _ .vmem, ⟨1, _⟩ => ⟨S1024x16, .f32⟩
  | .local _ .vmem, ⟨2, _⟩ => ⟨S16x1024, .f32⟩
  | .local _ .vmem, ⟨3, _⟩ => ⟨S1024x1, .i32⟩
  | .local _ .vmem, ⟨4, _⟩ => ⟨S1024x16, .f32⟩
  | .local _ .vmem, ⟨5, _⟩ => ⟨S16x1024, .f32⟩
  | .local _ .vmem, ⟨6, _⟩ => ⟨S1024x1024, .f32⟩
  | _, _ => ⟨S1000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let c8_i32 : BitVec 32 := 8#32
  let v4 : BitVec 1 := Scalar.cmpi .sle arg0 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c1_i32_3 : BitVec 32 := 1#32
  let v11 : BitVec 32 := Scalar.subi arg0 c1_i32_3
  let c128_i32 : BitVec 32 := 128#32
  let v12 : BitVec 32 := Scalar.muli v11 c128_i32
  let v13 : Index := Scalar.indexCast v12
  let c0 : Index := 0#32
  ![v13.toNat, 0]
def k0_off2 (i : grid0.Coords) : Fin 2 → Nat :=
  let arg0 : BitVec 32 := BitVec.ofNat 32 (i 0).val
  let c1_i32_3 : BitVec 32 := 1#32
  let v11 : BitVec 32 := Scalar.subi arg0 c1_i32_3
  let c128_i32_185 : BitVec 32 := 128#32
  let v899 : BitVec 32 := Scalar.muli v11 c128_i32_185
  let v900 : Index := Scalar.indexCast v899
  let c0_186 : Index := 0#32
  ![v900.toNat, 0]
def k0_cond3 (i : grid0.Coords) : BitVec 1 :=
  let arg0 : BitVec 32 := BitVec.ofNat 32 (i 0).val
  let c9_i32 : BitVec 32 := 9#32
  let v8 : BitVec 1 := Scalar.cmpi .eq arg0 c9_i32
  let v9 : BitVec 32 := Scalar.extui v8
  let c0_i32_2 : BitVec 32 := 0#32
  let v10 : BitVec 1 := Scalar.cmpi .ne v9 c0_i32_2
  v10

@[reducible] def k0_t1_loop : Scf.Loop 32 :=
  let c0_i32_3 : BitVec 32 := 0#32
  let c1000_i32 : BitVec 32 := 1000#32
  let v14 : BitVec 32 := Scalar.addi c0_i32_3 c1000_i32
  let c1_i32_4 : BitVec 32 := 1#32
  ⟨c0_i32_3, v14, c1_i32_4⟩
def k0_off3 (k0_t1 : Fin k0_t1_loop.trips) : Fin 2 → Nat :=
  let c0_i32_3 : BitVec 32 := 0#32
  let c1_i32_4 : BitVec 32 := 1#32
  let arg8 : BitVec 32 := Scf.iv c0_i32_3 c1_i32_4 k0_t1
  let v54 : Index := Scalar.indexCast arg8
  let c0_15 : Index := 0#32
  ![v54.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1000x5 : Shape := ⟨2, ![1000, 5]⟩
abbrev S1000 : Shape := ⟨1, ![1000]⟩
abbrev S4 : Shape := ⟨1, ![4]⟩
abbrev S_ : Shape := ⟨0, ![]⟩
abbrev S1000x1 : Shape := ⟨2, ![1000, 1]⟩
abbrev S1x4 : Shape := ⟨2, ![1, 4]⟩
abbrev S1000x4 : Shape := ⟨2, ![1000, 4]⟩
abbrev S1000x3 : Shape := ⟨2, ![1000, 3]⟩
abbrev S1x1000x1 : Shape := ⟨3, ![1, 1000, 1]⟩
abbrev S1000x1x4 : Shape := ⟨3, ![1000, 1, 4]⟩
abbrev S1000x1000x4 : Shape := ⟨3, ![1000, 1000, 4]⟩
abbrev S1000x1000 : Shape := ⟨2, ![1000, 1000]⟩
abbrev S1x1000 : Shape := ⟨2, ![1, 1000]⟩
abbrev S1 : Shape := ⟨1, ![1]⟩

abbrev nBuf : Space → Nat
  | .hbm => 272
  | .vmem => 0
  | .smem => 0
  | _ => 0

abbrev hbmTy0_0 (i : Nat) : BufTy := match i % 128 with
  | 0 => ⟨S1000x5, .f32⟩
  | 1 => ⟨S1000, .f32⟩
  | 2 => ⟨S4, .f32⟩
  | 3 => ⟨S4, .f32⟩
  | 4 => ⟨S1000, .f32⟩
  | 5 => ⟨S1000, .i32⟩
  | 6 => ⟨S1000, .f32⟩
  | 7 => ⟨S1000, .i32⟩
  | 8 => ⟨S_, .i32⟩
  | 9 => ⟨S1000, .i32⟩
  | 10 => ⟨S1000, .i1⟩
  | 11 => ⟨S_, .i32⟩
  | 12 => ⟨S1000, .i32⟩
  | 13 => ⟨S1000, .i32⟩
  | 14 => ⟨S1000, .i32⟩
  | 15 => ⟨S1000x1, .i32⟩
  | 16 => ⟨S1000x5, .f32⟩
  | 17 => ⟨S1000x1, .f32⟩
  | 18 => ⟨S1000, .f32⟩
  | 19 => ⟨S1000x1, .f32⟩
  | 20 => ⟨S1000x1, .f32⟩
  | 21 => ⟨S1000, .f32⟩
  | 22 => ⟨S1000x1, .f32⟩
  | 23 => ⟨S1000x1, .f32⟩
  | 24 => ⟨S1000, .f32⟩
  | 25 => ⟨S1000x1, .f32⟩
  | 26 => ⟨S1000x1, .f32⟩
  | 27 => ⟨S1000, .f32⟩
  | 28 => ⟨S1000x1, .f32⟩
  | 29 => ⟨S1000x1, .f32⟩
  | 30 => ⟨S1000, .f32⟩
  | 31 => ⟨S1000x1, .f32⟩
  | 32 => ⟨S1000x1, .f32⟩
  | 33 => ⟨S1000x1, .f32⟩
  | 34 => ⟨S_, .f32⟩
  | 35 => ⟨S1000x1, .f32⟩
  | 36 => ⟨S1000x1, .f32⟩
  | 37 => ⟨S1x4, .f32⟩
  | 38 => ⟨S1000x4, .f32⟩
  | 39 => ⟨S1000x4, .f32⟩
  | 40 => ⟨S1000x4, .f32⟩
  | 41 => ⟨S_, .f32⟩
  | 42 => ⟨S1000x1, .f32⟩
  | 43 => ⟨S1000x1, .f32⟩
  | 44 => ⟨S1x4, .f32⟩
  | 45 => ⟨S1000x4, .f32⟩
  | 46 => ⟨S1000x4, .f32⟩
  | 47 => ⟨S1000x4, .f32⟩
  | 48 => ⟨S1000x4, .f32⟩
  | 49 => ⟨S1000x4, .f32⟩
  | 50 => ⟨S1000x4, .f32⟩
  | 51 => ⟨S1000x4, .f32⟩
  | 52 => ⟨S1000x4, .f32⟩
  | 53 => ⟨S1000x4, .f32⟩
  | 54 => ⟨S1000x4, .f32⟩
  | 55 => ⟨S1000x4, .f32⟩
  | 56 => ⟨S1000x4, .f32⟩
  | 57 => ⟨S1000x4, .f32⟩
  | 58 => ⟨S1000x4, .f32⟩
  | 59 => ⟨S1000x4, .f32⟩
  | 60 => ⟨S1000x4, .f32⟩
  | 61 => ⟨S1000x4, .f32⟩
  | 62 => ⟨S1000x3, .f32⟩
  | 63 => ⟨S1000x1, .f32⟩
  | 64 => ⟨S1000x4, .f32⟩
  | 65 => ⟨S1000x3, .f32⟩
  | 66 => ⟨S1000x1, .f32⟩
  | 67 => ⟨S1000x4, .f32⟩
  | 68 => ⟨S1000x1, .f32⟩
  | 69 => ⟨S1000, .f32⟩
  | 70 => ⟨S1x1000x1, .f32⟩
  | 71 => ⟨S1000x1, .f32⟩
  | 72 => ⟨S1000, .f32⟩
  | 73 => ⟨S1x1000x1, .f32⟩
  | 74 => ⟨S1000x1, .f32⟩
  | 75 => ⟨S1000, .f32⟩
  | 76 => ⟨S1x1000x1, .f32⟩
  | 77 => ⟨S1000x1, .f32⟩
  | 78 => ⟨S1000, .f32⟩
  | 79 => ⟨S1x1000x1, .f32⟩
  | 80 => ⟨S1000x1, .f32⟩
  | 81 => ⟨S1000, .f32⟩
  | 82 => ⟨S1x1000x1, .f32⟩
  | 83 => ⟨S1x1000x1, .f32⟩
  | 84 => ⟨S1x1000x1, .f32⟩
  | 85 => ⟨S1000x1x4, .f32⟩
  | 86 => ⟨S1000x1000x4, .f32⟩
  | 87 => ⟨S1000x1000x4, .f32⟩
  | 88 => ⟨S1000x1000x4, .f32⟩
  | 89 => ⟨S1000x1x4, .f32⟩
  | 90 => ⟨S1000x1000x4, .f32⟩
  | 91 => ⟨S1000x1000x4, .f32⟩
  | 92 => ⟨S1000x1000x4, .f32⟩
  | 93 => ⟨S1000x1000x4, .f32⟩
  | 94 => ⟨S1000x1000x4, .f32⟩
  | 95 => ⟨S1000x1000x4, .f32⟩
  | 96 => ⟨S1000x1000x4, .f32⟩
  | 97 => ⟨S1000x1000x4, .f32⟩
  | 98 => ⟨S1000x1000x4, .f32⟩
  | 99 => ⟨S1000x1000x4, .f32⟩
  | 100 => ⟨S1000x1000x4, .f32⟩
  | 101 => ⟨S1000x1000x4, .f32⟩
  | 102 => ⟨S1000x1000x4, .f32⟩
  | 103 => ⟨S1000x1000x4, .f32⟩
  | 104 => ⟨S1000x1x4, .f32⟩
  | 105 => ⟨S1000x1000x4, .f32⟩
  | 106 => ⟨S1000x1000x4, .f32⟩
  | 107 => ⟨S1000x1000x4, .f32⟩
  | 108 => ⟨S1000x1x4, .f32⟩
  | 109 => ⟨S1000x1000x4, .f32⟩
  | 110 => ⟨S1000x1000x4, .f32⟩
  | 111 => ⟨S1000x1000x4, .f32⟩
  | 112 => ⟨S1000x1000x4, .f32⟩
  | 113 => ⟨S1000x1000x4, .f32⟩
  | 114 => ⟨S1000x1000x4, .f32⟩
  | 115 => ⟨S1000x1000x4, .f32⟩
  | 116 => ⟨S1000x1000x4, .f32⟩
  | 117 => ⟨S1000x1000x4, .f32⟩
  | 118 => ⟨S1000x1000x4, .f32⟩
  | 119 => ⟨S1000x1000x4, .f32⟩
  | 120 => ⟨S1000x1000x4, .f32⟩
  | 121 => ⟨S1000x1000x4, .f32⟩
  | 122 => ⟨S1000x1000x4, .f32⟩
  | 123 => ⟨S_, .f32⟩
  | 124 => ⟨S1x1000x1, .f32⟩
  | 125 => ⟨S1x1000x1, .f32⟩
  | 126 => ⟨S_, .f32⟩
  | 127 => ⟨S1x1000x1, .f32⟩
  | _ => ⟨S1000x5, .f32⟩

abbrev hbmTy0_1 (i : Nat) : BufTy := match i % 128 with
  | 0 => ⟨S1x1000x1, .f32⟩
  | 1 => ⟨S1000x1000x4, .f32⟩
  | 2 => ⟨S_, .f32⟩
  | 3 => ⟨S1000x1000x4, .f32⟩
  | 4 => ⟨S1000x1000x4, .i1⟩
  | 5 => ⟨S_, .f32⟩
  | 6 => ⟨S1000x1000x4, .f32⟩
  | 7 => ⟨S1000x1000x4, .f32⟩
  | 8 => ⟨S_, .f32⟩
  | 9 => ⟨S1000x1000x4, .f32⟩
  | 10 => ⟨S1000x1000x4, .f32⟩
  | 11 => ⟨S1000x1000x4, .f32⟩
  | 12 => ⟨S1x1000x1, .f32⟩
  | 13 => ⟨S1000x1000x4, .f32⟩
  | 14 => ⟨S1000x1000x4, .f32⟩
  | 15 => ⟨S1000x1000x4, .f32⟩
  | 16 => ⟨S1000x1000x4, .f32⟩
  | 17 => ⟨S1000x1000x4, .f32⟩
  | 18 => ⟨S1000x1000x4, .f32⟩
  | 19 => ⟨S1000x1000x4, .f32⟩
  | 20 => ⟨S_, .f32⟩
  | 21 => ⟨S1000x1000x4, .f32⟩
  | 22 => ⟨S1000x1000x4, .f32⟩
  | 23 => ⟨S1000x1000x4, .f32⟩
  | 24 => ⟨S_, .f32⟩
  | 25 => ⟨S1000x1000x4, .f32⟩
  | 26 => ⟨S1000x1000x4, .f32⟩
  | 27 => ⟨S1000x1000x4, .f32⟩
  | 28 => ⟨S_, .f32⟩
  | 29 => ⟨S1000x1000x4, .f32⟩
  | 30 => ⟨S1000x1000x4, .i1⟩
  | 31 => ⟨S_, .f32⟩
  | 32 => ⟨S1000x1000x4, .f32⟩
  | 33 => ⟨S1000x1000x4, .f32⟩
  | 34 => ⟨S_, .f32⟩
  | 35 => ⟨S1000x1000x4, .f32⟩
  | 36 => ⟨S1000x1000x4, .f32⟩
  | 37 => ⟨S1000x1000x4, .f32⟩
  | 38 => ⟨S1x1000x1, .f32⟩
  | 39 => ⟨S1000x1000x4, .f32⟩
  | 40 => ⟨S1000x1000x4, .f32⟩
  | 41 => ⟨S1000x1000x4, .f32⟩
  | 42 => ⟨S1000x1000x4, .f32⟩
  | 43 => ⟨S1000x1000x4, .f32⟩
  | 44 => ⟨S1000x1000x4, .f32⟩
  | 45 => ⟨S1000x1000x4, .f32⟩
  | 46 => ⟨S1000x1000x4, .f32⟩
  | 47 => ⟨S1000x1000x4, .f32⟩
  | 48 => ⟨S1000x1000x4, .f32⟩
  | 49 => ⟨S1000x4, .f32⟩
  | 50 => ⟨S1000x4, .f32⟩
  | 51 => ⟨S1000x4, .f32⟩
  | 52 => ⟨S1000x1x4, .f32⟩
  | 53 => ⟨S_, .f32⟩
  | 54 => ⟨S1000x1x4, .f32⟩
  | 55 => ⟨S1000x1x4, .f32⟩
  | 56 => ⟨S1000x1000x4, .f32⟩
  | 57 => ⟨S_, .f32⟩
  | 58 => ⟨S1000x1000x4, .f32⟩
  | 59 => ⟨S1000x1000x4, .f32⟩
  | 60 => ⟨S1000x1000x4, .f32⟩
  | 61 => ⟨S1000x1000x4, .f32⟩
  | 62 => ⟨S_, .f32⟩
  | 63 => ⟨S1000x1000, .f32⟩
  | 64 => ⟨S1000x1000, .f32⟩
  | 65 => ⟨S1000x1000, .f32⟩
  | 66 => ⟨S1000x1000, .f32⟩
  | 67 => ⟨S1000x1, .f32⟩
  | 68 => ⟨S1000, .f32⟩
  | 69 => ⟨S1000x1, .f32⟩
  | 70 => ⟨S1000, .f32⟩
  | 71 => ⟨S1000, .f32⟩
  | 72 => ⟨S1000x1, .f32⟩
  | 73 => ⟨S1x1000, .f32⟩
  | 74 => ⟨S1000x1000, .f32⟩
  | 75 => ⟨S1000x1000, .f32⟩
  | 76 => ⟨S1000x1000, .f32⟩
  | 77 => ⟨S1000x1000, .f32⟩
  | 78 => ⟨S_, .f32⟩
  | 79 => ⟨S1000x1000, .f32⟩
  | 80 => ⟨S1000x1000, .f32⟩
  | 81 => ⟨S1000x1000, .f32⟩
  | 82 => ⟨S1000, .i32⟩
  | 83 => ⟨S_, .i1⟩
  | 84 => ⟨S1000, .i1⟩
  | 85 => ⟨S_, .i32⟩
  | 86 => ⟨S_, .i32⟩
  | 87 => ⟨S1000x1000, .f32⟩
  | 88 => ⟨S1000, .i32⟩
  | 89 => ⟨S_, .i32⟩
  | 90 => ⟨S_, .i32⟩
  | 91 => ⟨S1000, .i1⟩
  | 92 => ⟨S_, .i32⟩
  | 93 => ⟨S_, .i1⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1, .i1⟩
  | 103 => ⟨S_, .i1⟩
  | 104 => ⟨S_, .i1⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1x1000, .f32⟩
  | 120 => ⟨S1000, .f32⟩
  | 121 => ⟨S_, .f32⟩
  | 122 => ⟨S1000, .f32⟩
  | 123 => ⟨S1000, .i1⟩
  | 124 => ⟨S_, .i32⟩
  | 125 => ⟨S1000, .i32⟩
  | 126 => ⟨S1000, .i1⟩
  | 127 => ⟨S1000, .i1⟩
  | _ => ⟨S1000x5, .f32⟩

abbrev hbmTy0_2 (i : Nat) : BufTy := match i % 128 with
  | 0 => ⟨S1000, .i1⟩
  | 1 => ⟨S1000, .i1⟩
  | 2 => ⟨S1000, .i1⟩
  | 3 => ⟨S_, .i32⟩
  | 4 => ⟨S_, .i32⟩
  | 5 => ⟨S1000, .f32⟩
  | 6 => ⟨S1000, .i32⟩
  | 7 => ⟨S1000, .f32⟩
  | 8 => ⟨S1000, .i32⟩
  | 9 => ⟨S_, .i32⟩
  | 10 => ⟨S_, .i32⟩
  | 11 => ⟨S1000, .i32⟩
  | 12 => ⟨S1000, .i32⟩
  | 13 => ⟨S1000, .i32⟩
  | 14 => ⟨S1000, .i32⟩
  | 15 => ⟨S1000, .i32⟩
  | _ => ⟨S1000x5, .f32⟩

abbrev hbmTy (i : Nat) : BufTy := match i / 128 with
  | 0 => hbmTy0_0 i
  | 1 => hbmTy0_1 i
  | 2 => hbmTy0_2 i
  | _ => ⟨S1000x5, .f32⟩

abbrev bufTy : (tb : Table) → Fin (tcTables nBuf tb) → BufTy
  | .hbm, ⟨i, _⟩ => hbmTy i
  | _, _ => ⟨S1000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_v0 : Ref sig .tc := ⟨.hbm, 5, rfl⟩
abbrev main_call0_v1_0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_call1_v0 : Ref sig .tc := ⟨.hbm, 62, rfl⟩
abbrev main_call1_v1 : Ref sig .tc := ⟨.hbm, 63, rfl⟩
abbrev main_v52 : Ref sig .tc := ⟨.hbm, 64, rfl⟩
abbrev main_call2_v0 : Ref sig .tc := ⟨.hbm, 65, rfl⟩
abbrev main_call2_v1 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_cst_4 : Ref sig .tc := ⟨.hbm, 123, rfl⟩
abbrev main_v109 : Ref sig .tc := ⟨.hbm, 124, rfl⟩
abbrev main_v110 : Ref sig .tc := ⟨.hbm, 125, rfl⟩
abbrev main_cst_5 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_cst_6 : Ref sig .tc := ⟨.hbm, 130, rfl⟩
abbrev main_v114 : Ref sig .tc := ⟨.hbm, 131, rfl⟩
abbrev main_v115 : Ref sig .tc := ⟨.hbm, 132, rfl⟩
abbrev main_cst_7 : Ref sig .tc := ⟨.hbm, 133, rfl⟩
abbrev main_v116 : Ref sig .tc := ⟨.hbm, 134, rfl⟩
abbrev main_v117 : Ref sig .tc := ⟨.hbm, 135, rfl⟩
abbrev main_cst_8 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_cst_9 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_10 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_11 : Ref sig .tc := ⟨.hbm, 156, rfl⟩
abbrev main_v135 : Ref sig .tc := ⟨.hbm, 157, rfl⟩
abbrev main_v136 : Ref sig .tc := ⟨.hbm, 158, rfl⟩
abbrev main_cst_12 : Ref sig .tc := ⟨.hbm, 159, rfl⟩
abbrev main_v137 : Ref sig .tc := ⟨.hbm, 160, rfl⟩
abbrev main_v138 : Ref sig .tc := ⟨.hbm, 161, rfl⟩
abbrev main_cst_13 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_cst_14 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_cst_15 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_cst_16 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_cst_17 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_c_18 : Ref sig .tc := ⟨.hbm, 211, rfl⟩
abbrev main_v183 : Ref sig .tc := ⟨.hbm, 212, rfl⟩
abbrev main_c_19 : Ref sig .tc := ⟨.hbm, 213, rfl⟩
abbrev main_c_20 : Ref sig .tc := ⟨.hbm, 214, rfl⟩
abbrev main_v184_0 : Ref sig .tc := ⟨.hbm, 215, rfl⟩
abbrev main_v184_1 : Ref sig .tc := ⟨.hbm, 216, rfl⟩
abbrev main_v184_2 : Ref sig .tc := ⟨.hbm, 217, rfl⟩
abbrev main_v184_3 : Ref sig .tc := ⟨.hbm, 218, rfl⟩
abbrev main_v184_4 : Ref sig .tc := ⟨.hbm, 219, rfl⟩
abbrev main_while0c_c_26 : Ref sig .tc := ⟨.hbm, 220, rfl⟩
abbrev main_while0c_v190 : Ref sig .tc := ⟨.hbm, 221, rfl⟩
abbrev main_while0b_c_26 : Ref sig .tc := ⟨.hbm, 222, rfl⟩
abbrev main_while0b_v190 : Ref sig .tc := ⟨.hbm, 223, rfl⟩
abbrev main_while0b_c_27 : Ref sig .tc := ⟨.hbm, 224, rfl⟩
abbrev main_while0b_v191 : Ref sig .tc := ⟨.hbm, 225, rfl⟩
abbrev main_while0b_v192 : Ref sig .tc := ⟨.hbm, 226, rfl⟩
abbrev main_while0b_c_28 : Ref sig .tc := ⟨.hbm, 227, rfl⟩
abbrev main_while0b_v193 : Ref sig .tc := ⟨.hbm, 228, rfl⟩
abbrev main_while0b_v194 : Ref sig .tc := ⟨.hbm, 229, rfl⟩
abbrev main_while0b_v195 : Ref sig .tc := ⟨.hbm, 230, rfl⟩
abbrev main_while0b_v196 : Ref sig .tc := ⟨.hbm, 231, rfl⟩
abbrev main_while0b_v197 : Ref sig .tc := ⟨.hbm, 232, rfl⟩
abbrev main_while0b_v198 : Ref sig .tc := ⟨.hbm, 233, rfl⟩
abbrev main_while0b_c_29 : Ref sig .tc := ⟨.hbm, 234, rfl⟩
abbrev main_while0b_v199 : Ref sig .tc := ⟨.hbm, 235, rfl⟩
abbrev main_while0b_c_30 : Ref sig .tc := ⟨.hbm, 236, rfl⟩
abbrev main_while0b_v200 : Ref sig .tc := ⟨.hbm, 237, rfl⟩
abbrev main_while0b_v201 : Ref sig .tc := ⟨.hbm, 238, rfl⟩
abbrev main_while0b_c_31 : Ref sig .tc := ⟨.hbm, 239, rfl⟩
abbrev main_while0b_c_32 : Ref sig .tc := ⟨.hbm, 240, rfl⟩
abbrev main_while0b_v202 : Ref sig .tc := ⟨.hbm, 241, rfl⟩
abbrev main_while0b_c_33 : Ref sig .tc := ⟨.hbm, 242, rfl⟩
abbrev main_while0b_c_34 : Ref sig .tc := ⟨.hbm, 243, rfl⟩
abbrev main_while0b_v203 : Ref sig .tc := ⟨.hbm, 244, rfl⟩
abbrev main_while0b_c_35 : Ref sig .tc := ⟨.hbm, 245, rfl⟩
abbrev main_while0b_v204 : Ref sig .tc := ⟨.hbm, 246, rfl⟩
abbrev main_while0b_v205 : Ref sig .tc := ⟨.hbm, 247, rfl⟩
abbrev main_while0b_v206 : Ref sig .tc := ⟨.hbm, 248, rfl⟩
abbrev main_while0b_cst_36 : Ref sig .tc := ⟨.hbm, 249, rfl⟩
abbrev main_while0b_v207 : Ref sig .tc := ⟨.hbm, 250, rfl⟩
abbrev main_while0b_v208 : Ref sig .tc := ⟨.hbm, 251, rfl⟩
abbrev main_while0b_v209 : Ref sig .tc := ⟨.hbm, 252, rfl⟩
abbrev main_while0b_v210 : Ref sig .tc := ⟨.hbm, 253, rfl⟩
abbrev main_while0b_v211 : Ref sig .tc := ⟨.hbm, 254, rfl⟩
abbrev main_while0b_v212 : Ref sig .tc := ⟨.hbm, 255, rfl⟩
abbrev main_while0b_v213 : Ref sig .tc := ⟨.hbm, 256, rfl⟩
abbrev main_while0b_v214 : Ref sig .tc := ⟨.hbm, 257, rfl⟩
abbrev main_while0b_v215 : Ref sig .tc := ⟨.hbm, 258, rfl⟩
abbrev main_while0b_c_37 : Ref sig .tc := ⟨.hbm, 259, rfl⟩
abbrev main_while0b_v216 : Ref sig .tc := ⟨.hbm, 260, rfl⟩
abbrev main_v185 : Ref sig .tc := ⟨.hbm, 261, rfl⟩
abbrev main_call5_v0 : Ref sig .tc := ⟨.hbm, 262, rfl⟩
abbrev main_call5_v1_0 : Ref sig .tc := ⟨.hbm, 263, rfl⟩
abbrev main_v186 : Ref sig .tc := ⟨.hbm, 264, rfl⟩
abbrev main_c_21 : Ref sig .tc := ⟨.hbm, 265, rfl⟩
abbrev main_call6_v0 : Ref sig .tc := ⟨.hbm, 266, rfl⟩
abbrev main_call6_v1 : Ref sig .tc := ⟨.hbm, 267, rfl⟩
abbrev main_v187 : Ref sig .tc := ⟨.hbm, 268, rfl⟩
abbrev main_v188 : Ref sig .tc := ⟨.hbm, 269, rfl⟩
abbrev main_v189_0 : Ref sig .tc := ⟨.hbm, 270, rfl⟩
abbrev main_v189_1 : Ref sig .tc := ⟨.hbm, 271, rfl⟩

abbrev nD : Nat := 1
abbrev τ : Topo := Topo.v7x

variable {F : FTy → Type} [FloatOps F]

abbrev main_while0_count : Scf.Loop 32 := ⟨0#32, 1000#32, 1#32⟩
-- ==== Proof.Body.KernelIdealRunA.lean ====
module

public import proofs.«01_k».proof.Proof.Gen.KernelIdeal.Frame
public import proofs.«01_k».proof.Proof.Gen.KernelIdeal.Loops
public import Idealize.ShloMosaic.Lib.Exec

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The first conditional's condition: the grid coordinate is zero. -/
abbrev cond1 (i : grid0.Coords) : Prop :=
  (Scalar.cmpi .ne (Scalar.extui (Scalar.cmpi .eq (BitVec.ofNat 32 (i 0).val) 0#32)) 0#32) = 1#1
/-- The second conditional's condition: the coordinate is one of 1 … 8. -/
abbrev cond2 (i : grid0.Coords) : Prop := k0_cond2 i = 1#1
/-- The third conditional's condition: the coordinate is 9. -/
abbrev cond3 (i : grid0.Coords) : Prop := k0_cond3 i = 1#1

set_option maxHeartbeats 4000000 in
/-- The body's run in case A, the sort at the first point: the two sorted copies of the boxes are stored whole, the rest is handed back; what the stores leave is the witness the run finds. -/
noncomputable def runA (c : Dev nD) (i : grid0.Coords) (arg1 : Memref sig .tc .vmem S1x1024 .f32) (harg1 : arg1.IsWhole) (arg2 : Memref sig .tc .vmem S1024x16 .f32) (harg2 : arg2.IsWhole)
    (arg3 : Memref sig .tc .vmem S16x1024 .f32) (harg3 : arg3.IsWhole) (arg4 : Memref sig .tc .vmem S1024x1 .i32) (harg4 : arg4.IsWhole)
    (arg5 : Memref sig .tc .vmem S1024x16 .f32) (harg5 : arg5.IsWhole) (arg6 : Memref sig .tc .vmem S16x1024 .f32) (harg6 : arg6.IsWhole)
    (arg7 : Memref sig .tc .vmem S1024x1024 .f32) (harg7 : arg7.IsWhole)
    (hc0 : cond1 i) (hc1 : ¬cond2 i) (hc2 : ¬cond3 i)
    (x0 : Vec F S1x1024 .f32) (x1 : Vec F S1024x16 .f32) (x2 : Vec F S16x1024 .f32) :
    Σ' (LS0 : List (View.Piece (Elt F) S1024x16 .f32)), { LS1 : List (View.Piece (Elt F) S16x1024 .f32) //
      ∀ (xi3 : Vec F S1024x1 .i32) (xs2 : Vec F S1024x1024 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare xi3
            ∗ (∃ d, owns (c : Thread nD τ) arg5 fullShare d)
            ∗ (∃ d, owns (c : Thread nD τ) arg6 fullShare d)
            ∗ owns (c : Thread nD τ) arg7 fullShare xs2
            ∗ (iprop(owns (c : Thread nD τ) arg1 fullShare x0
            ∗ owns (c : Thread nD τ) arg2 fullShare x1
            ∗ owns (c : Thread nD τ) arg3 fullShare x2
            ∗ owns (c : Thread nD τ) arg4 fullShare xi3
            ∗ (∃ f, (arg5.view.loc (c : Thread nD τ) ↦[arg5.view.set]{fullShare} arg5.view.writes (Elt F) f LS0))
            ∗ (∃ f, (arg6.view.loc (c : Thread nD τ) ↦[arg6.view.set]{fullShare} arg6.view.writes (Elt F) f LS1))
            ∗ owns (c : Thread nD τ) arg7 fullShare xs2) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨?_, ?_, fun xi3 xs2 E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%f3, %hf3, H3⟩, ⟨%d4, %f4, -, HS0⟩, ⟨%d5, %f5, -, HS1⟩, ⟨%f6, %hf6, HS2⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; iexact HS0
    isplitl [HS1]
    · iexists _; iexact HS1
    iexists _; isplitr; · ipureintro; exact harg7.read_unread _
    iexact HS2

end Cert.KernelIdeal.Body

end
-- ==== Proof.Body.KernelIdealRunB.lean ====
module

public import proofs.«01_k».proof.Proof.Body.KernelIdealRunA

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body's run in case B, one block of 128 rows of the overlap matrix: one store into the third scratch, the rest is handed back; what the stores leave is the witness the run finds. -/
noncomputable def runB (c : Dev nD) (i : grid0.Coords) (arg1 : Memref sig .tc .vmem S1x1024 .f32) (harg1 : arg1.IsWhole) (arg2 : Memref sig .tc .vmem S1024x16 .f32) (harg2 : arg2.IsWhole)
    (arg3 : Memref sig .tc .vmem S16x1024 .f32) (harg3 : arg3.IsWhole) (arg4 : Memref sig .tc .vmem S1024x1 .i32) (harg4 : arg4.IsWhole)
    (arg5 : Memref sig .tc .vmem S1024x16 .f32) (harg5 : arg5.IsWhole) (arg6 : Memref sig .tc .vmem S16x1024 .f32) (harg6 : arg6.IsWhole)
    (arg7 : Memref sig .tc .vmem S1024x1024 .f32) (harg7 : arg7.IsWhole)
    (hc0 : ¬cond1 i) (hc1 : cond2 i) (hc2 : ¬cond3 i)
    (xs0 : Vec F S1024x16 .f32) (xs1 : Vec F S16x1024 .f32) :
    { LS2 : List (View.Piece (Elt F) S1024x1024 .f32) //
      ∀ (x0 : Vec F S1x1024 .f32) (x1 : Vec F S1024x16 .f32) (x2 : Vec F S16x1024 .f32) (xi3 : Vec F S1024x1 .i32) (xs2 : Vec F S1024x1024 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare xi3
            ∗ owns (c : Thread nD τ) arg5 fullShare xs0
            ∗ owns (c : Thread nD τ) arg6 fullShare xs1
            ∗ owns (c : Thread nD τ) arg7 fullShare xs2
            ∗ (iprop(owns (c : Thread nD τ) arg1 fullShare x0
            ∗ owns (c : Thread nD τ) arg2 fullShare x1
            ∗ owns (c : Thread nD τ) arg3 fullShare x2
            ∗ owns (c : Thread nD τ) arg4 fullShare xi3
            ∗ owns (c : Thread nD τ) arg5 fullShare xs0
            ∗ owns (c : Thread nD τ) arg6 fullShare xs1
            ∗ (arg7.view.loc (c : Thread nD τ) ↦[arg7.view.set]{fullShare} arg7.view.writes (Elt F) (harg7.unread xs2) LS2)) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨?_, fun x0 x1 x2 xi3 xs2 E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%f3, %hf3, H3⟩, ⟨%f4, %hf4, HS0⟩, ⟨%f5, %hf5, HS1⟩, ⟨%f6, %hf6, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _; isplitr; · ipureintro; exact harg5.read_unread _
      iexact HS0
    isplitl [HS1]
    · iexists _; isplitr; · ipureintro; exact harg6.read_unread _
      iexact HS1
    iexact HS2

end Cert.KernelIdeal.Body

end
-- ==== Proof.Body.KernelIdealRunC.lean ====
module

public import proofs.«01_k».proof.Proof.Body.KernelIdealRunB

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body's run in case C, the suppression and the compaction at the last point: the result is stored whole, the rest is handed back; what the stores leave is the witness the run finds. -/
noncomputable def runC (c : Dev nD) (i : grid0.Coords) (arg1 : Memref sig .tc .vmem S1x1024 .f32) (harg1 : arg1.IsWhole) (arg2 : Memref sig .tc .vmem S1024x16 .f32) (harg2 : arg2.IsWhole)
    (arg3 : Memref sig .tc .vmem S16x1024 .f32) (harg3 : arg3.IsWhole) (arg4 : Memref sig .tc .vmem S1024x1 .i32) (harg4 : arg4.IsWhole)
    (arg5 : Memref sig .tc .vmem S1024x16 .f32) (harg5 : arg5.IsWhole) (arg6 : Memref sig .tc .vmem S16x1024 .f32) (harg6 : arg6.IsWhole)
    (arg7 : Memref sig .tc .vmem S1024x1024 .f32) (harg7 : arg7.IsWhole)
    (hc0 : ¬cond1 i) (hc1 : ¬cond2 i) (hc2 : cond3 i)
    (xs0 : Vec F S1024x16 .f32) (xs2 : Vec F S1024x1024 .f32) :
    { L3 : List (View.Piece (Elt F) S1024x1 .i32) //
      ∀ (x0 : Vec F S1x1024 .f32) (x1 : Vec F S1024x16 .f32) (x2 : Vec F S16x1024 .f32) (xs1 : Vec F S16x1024 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ owns (c : Thread nD τ) arg5 fullShare xs0
            ∗ owns (c : Thread nD τ) arg6 fullShare xs1
            ∗ owns (c : Thread nD τ) arg7 fullShare xs2
            ∗ (iprop(owns (c : Thread nD τ) arg1 fullShare x0
            ∗ owns (c : Thread nD τ) arg2 fullShare x1
            ∗ owns (c : Thread nD τ) arg3 fullShare x2
            ∗ (∃ f, (arg4.view.loc (c : Thread nD τ) ↦[arg4.view.set]{fullShare} arg4.view.writes (Elt F) f L3))
            ∗ owns (c : Thread nD τ) arg5 fullShare xs0
            ∗ owns (c : Thread nD τ) arg6 fullShare xs1
            ∗ owns (c : Thread nD τ) arg7 fullShare xs2) -∗ K ⟨⟩))
          ⊢ wp frame (wpE (defs₀ (F := F)) Variants.none c none) E (cc0__nms_kernel i arg1 harg1 arg2 harg2 arg3 harg3 arg4 harg4 arg5 harg5 arg6 harg6 arg7 harg7) K } := by
  refine ⟨?_, fun x0 x1 x2 xs1 E K => ?run⟩
  case run =>
    simp only [cc0__nms_kernel_eq_skeleton]; unfold cc0__nms_kernel_skel
    unfold owns
    iintro ⟨⟨%f0, %hf0, H0⟩, ⟨%f1, %hf1, H1⟩, ⟨%f2, %hf2, H2⟩, ⟨%d3, %f3, -, H3⟩, ⟨%f4, %hf4, HS0⟩, ⟨%f5, %hf5, HS1⟩, ⟨%f6, %hf6, HS2⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [HS0]
    · iexists _; isplitr; · ipureintro; exact harg5.read_unread _
      iexact HS0
    isplitl [HS1]
    · iexists _; isplitr; · ipureintro; exact harg6.read_unread _
      iexact HS1
    iexists _; isplitr; · ipureintro; exact harg7.read_unread _
    iexact HS2

end Cert.KernelIdeal.Body

end
-- ==== Proof.Body.KernelIdealFrame.lean ====
module

public import proofs.«01_k».proof.Proof.Body.KernelIdealRunA
public import proofs.«01_k».proof.Proof.Body.KernelIdealRunB
public import proofs.«01_k».proof.Proof.Body.KernelIdealRunC
public import Idealize.ShloMosaic.Lib.WritesUnit
public import Idealize.ShloMosaic.Lib.VecWindow
public import Idealize.ShloMosaic.Lib.Pointwise.Index
public import Idealize.ShloMosaic.Lib.Quiescent
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which conditional runs at which point -/

/-- The sort runs at point 0 only. -/
theorem cond1_iff : ∀ t : Fin cfg0.N, cond1 (grid0.coords t) ↔ t.val = 0 :=
  (by decide +kernel : ∀ t : Fin grid0.N, cond1 (grid0.coords t) ↔ t.val = 0)
/-- A block of overlaps is computed at the points 1 … 8. -/
theorem cond2_iff : ∀ t : Fin cfg0.N, cond2 (grid0.coords t) ↔ (1 ≤ t.val ∧ t.val ≤ 8) :=
  (by decide +kernel : ∀ t : Fin grid0.N, cond2 (grid0.coords t) ↔ (1 ≤ t.val ∧ t.val ≤ 8))
/-- The suppression and the compaction run at point 9. -/
theorem cond3_iff : ∀ t : Fin cfg0.N, cond3 (grid0.coords t) ↔ t.val = 9 :=
  (by decide +kernel : ∀ t : Fin grid0.N, cond3 (grid0.coords t) ↔ t.val = 9)
/-- The block stored at point `t` begins at row `128 (t - 1)`. -/
theorem row_off : ∀ t : Fin cfg0.N, 1 ≤ t.val → k0_off2 (grid0.coords t) = ![(t.val - 1) * 128, 0] :=
  (by decide +kernel : ∀ t : Fin grid0.N, 1 ≤ t.val → k0_off2 (grid0.coords t) = ![(t.val - 1) * 128, 0])

/-- The inputs are never idle. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
/-- Before the last point the output is idle and not written back. -/
theorem idle_3 : ∀ t : Fin cfg0.N, ¬cond3 (grid0.coords t) → cfg0.idle 3 (grid0.coords t) = true := by decide +kernel
theorem noFlush_3 : ∀ t : Fin cfg0.N, ¬cond3 (grid0.coords t) → (cfg0.win 3).flush t = false := by decide +kernel
/-- At the last point the output is live. -/
theorem live_3 : ∀ t : Fin cfg0.N, cond3 (grid0.coords t) → cfg0.idle 3 (grid0.coords t) = false := by decide +kernel

/-! ## The buffers -/

/-- Each window's staging buffer at point `t`, and that it is whole. -/
abbrev st_0 (t : Fin cfg0.N) : Memref sig .tc .vmem S1x1024 .f32 := win0_0.stage (cfg0.slots t 0)
abbrev hst_0 (t : Fin cfg0.N) : (st_0 t).IsWhole := hstage0_0 ((cfg0.slots t 0).cast nbuf0_0)
abbrev st_1 (t : Fin cfg0.N) : Memref sig .tc .vmem S1024x16 .f32 := win0_1.stage (cfg0.slots t 1)
abbrev hst_1 (t : Fin cfg0.N) : (st_1 t).IsWhole := hstage0_1 ((cfg0.slots t 1).cast nbuf0_1)
abbrev st_2 (t : Fin cfg0.N) : Memref sig .tc .vmem S16x1024 .f32 := win0_2.stage (cfg0.slots t 2)
abbrev hst_2 (t : Fin cfg0.N) : (st_2 t).IsWhole := hstage0_2 ((cfg0.slots t 2).cast nbuf0_2)
abbrev st_3 (t : Fin cfg0.N) : Memref sig .tc .vmem S1024x1 .i32 := win0_3.stage (cfg0.slots t 3)
abbrev hst_3 (t : Fin cfg0.N) : (st_3 t).IsWhole := hstage0_3 ((cfg0.slots t 3).cast nbuf0_3)
/-- The three scratch buffers: the sorted boxes by rows, the sorted boxes by columns, the overlap matrix. -/
abbrev sc_0 : Memref sig .tc .vmem S1024x16 .f32 := Memref.whole cc0_scratch0
abbrev sc_1 : Memref sig .tc .vmem S16x1024 .f32 := Memref.whole cc0_scratch1
abbrev sc_2 : Memref sig .tc .vmem S1024x1024 .f32 := Memref.whole cc0_scratch2

/-- What the launch hands over, with the scratch buffers as memrefs. -/
theorem PhiA_eq (c : Dev nD) :
    (Pipeline.ΦA spec0 c : sProp 𝕄)
      = iprop(iprop((∃ d, owns (c : Thread nD τ) sc_0 fullShare d) ∗ (∃ d, owns (c : Thread nD τ) sc_1 fullShare d)
          ∗ (∃ d, owns (c : Thread nD τ) sc_2 fullShare d)) ∗ (∃ r, prngReg c r)) := by
  unfold Pipeline.ΦA; rw [scopedRest0_eq]; simp only [sc_0, sc_1, sc_2, owns_whole]; try rfl

/-! ## What the body leaves in them -/

/-- The first and the last point. -/
abbrev tA : Fin cfg0.N := ⟨0, lt_of_lt_of_eq (by decide) (N_0).symm⟩
abbrev tC : Fin cfg0.N := ⟨9, lt_of_lt_of_eq (by decide) (N_0).symm⟩
/-- The point at which row `r` of the overlap matrix is stored. -/
abbrev tB (r : Fin 1024) : Fin cfg0.N := ⟨r.val / 128 + 1, by rw [show cfg0.N = 10 from N_0]; have := r.isLt; omega⟩
theorem cond2_tB (r : Fin 1024) : cond2 (grid0.coords (tB r)) := (cond2_iff (tB r)).mpr (by
  have := r.isLt; constructor
  · exact Nat.le_add_left 1 _
  · show r.val / 128 + 1 ≤ 8; omega)

/-- The boxes sorted by score, one box a row. -/
def sorted0 (c : Dev nD) : Vec F S1024x16 .f32 :=
  k0_pay1 (runA.sl.r_1 c (st_0 tA) (hst_0 tA) (st_1 tA) (hst_1 tA) (iblk m c 0 tA) (iblk m c 1 tA))
/-- The boxes sorted by score, one box a column. -/
def sorted1 (c : Dev nD) : Vec F S16x1024 .f32 :=
  k0_pay2 (runA.sl.r c (st_0 tA) (hst_0 tA) (st_1 tA) (hst_1 tA) (iblk m c 0 tA) (iblk m c 1 tA))
    ((st_2 tA).view.readAt (Elt F) (Rect.unit (s := S16x1024) ![0, 0] S16x1024.size inb_S16x1024_S16x1024_0_0).toLoadRect ((hst_2 tA).unread (iblk m c 2 tA)))
/-- The block of 128 rows of overlaps stored at point `t`. -/
def overlapRows (c : Dev nD) (t : Fin cfg0.N) (h : cond2 (grid0.coords t)) : Vec F S128x1024 .f32 :=
  runB.sl.r_116 c (grid0.coords t) sc_0 (Memref.isWhole_whole _) sc_1 (Memref.isWhole_whole _) h (sorted0 m c) (sorted1 m c)
/-- The whole overlap matrix, its rows gathered from the eight blocks. -/
def overlaps (c : Dev nD) : Vec F S1024x1024 .f32 := fun y =>
  overlapRows m c (tB (y 0)) (cond2_tB (y 0)) (ix2 (⟨(y 0).val % 128, Nat.mod_lt _ (by decide)⟩ : Fin 128) (y 1))
/-- The output: the compaction of the boxes the suppression keeps. -/
def answer (c : Dev nD) : Vec F S1024x1 .i32 :=
  k0_pay192 (st_k0_t1 Variants.none c none (grid0.coords tC) (st_0 tC) (hst_0 tC) (st_1 tC) (hst_1 tC) (st_2 tC) (hst_2 tC) (st_3 tC) (hst_3 tC)
      sc_0 (Memref.isWhole_whole _) sc_1 (Memref.isWhole_whole _) sc_2 (Memref.isWhole_whole _) ((cond3_iff tC).mpr rfl)
      ((Memref.isWhole_whole cc0_scratch2).unread (overlaps m c)) k0_pay190 (Scf.trips 0#32 (Scalar.addi 0#32 1000#32) 1#32))
    (sc_0.view.readAt (Elt F) (Rect.unit (s := S1024x16) ![0, 6] S1024x1.size inb_S1024x16_S1024x1_0_6).toLoadRect
      ((Memref.isWhole_whole cc0_scratch0).unread (sorted0 m c)))

/-- The invariant before position `n`: at first what the launch hands over; after point `n` the sorted boxes, and an overlap
matrix right in its first `128 n` rows. -/
def Inv (c : Dev nD) : (n : ℕ) → n ≤ cfg0.N → sProp 𝕄
  | 0, _ => Pipeline.ΦA spec0 c
  | n + 1, hn => iprop(iprop(owns (c : Thread nD τ) sc_0 fullShare (sorted0 m c) ∗ owns (c : Thread nD τ) sc_1 fullShare (sorted1 m c)
      ∗ (∃ d : Vec F S1024x1024 .f32, ⌜∀ y : S1024x1024.Idx, (y 0).val < 128 * n → d y = overlaps m c y⌝ ∗ owns (c : Thread nD τ) sc_2 fullShare d))
      ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) sc_0 fullShare (sorted0 m c) ∗ owns (c : Thread nD τ) sc_1 fullShare (sorted1 m c)
      ∗ (∃ d : Vec F S1024x1024 .f32, ⌜∀ y : S1024x1024.Idx, (y 0).val < 128 * n → d y = overlaps m c y⌝ ∗ owns (c : Thread nD τ) sc_2 fullShare d))
      ∗ (∃ r, prngReg c r)) := rfl
theorem Inv_pos (c : Dev nD) (n : ℕ) (h : n ≤ cfg0.N) (hz : n ≠ 0) :
    Inv m c n h = iprop(iprop(owns (c : Thread nD τ) sc_0 fullShare (sorted0 m c) ∗ owns (c : Thread nD τ) sc_1 fullShare (sorted1 m c)
      ∗ (∃ d : Vec F S1024x1024 .f32, ⌜∀ y : S1024x1024.Idx, (y 0).val < 128 * (n - 1) → d y = overlaps m c y⌝ ∗ owns (c : Thread nD τ) sc_2 fullShare d))
      ∗ (∃ r, prngReg c r)) := by
  cases n with
  | zero => exact absurd rfl hz
  | succ n => rfl

/-- One more block of right rows makes the first `128 t` rows right. -/
theorem rows_step (c : Dev nD) (t : Fin cfg0.N) (ht : 1 ≤ t.val ∧ t.val ≤ 8) (d : Vec F S1024x1024 .f32)
    (hd : ∀ y : S1024x1024.Idx, (y 0).val < 128 * (t.val - 1) → d y = overlaps m c y)
    (inb : ∀ a : Fin 2, k0_off2 (grid0.coords t) a + S128x1024.size a ≤ S1024x1024.size a) (h : cond2 (grid0.coords t)) :
    ∀ y : S1024x1024.Idx, (y 0).val < 128 * t.val →
      sc_2.view.read (Elt F) (sc_2.view.writes (Elt F) ((Memref.isWhole_whole cc0_scratch2).unread d)
        [⟨Rect.unit (s := S1024x1024) (k0_off2 (grid0.coords t)) S128x1024.size inb, overlapRows m c t h⟩]) y = overlaps m c y := by
  intro y hy
  have hoff := row_off t ht.1
  by_cases hlt : (y 0).val < 128 * (t.val - 1)
  · refine (View.read_writes_cons_rows_of_not_mem (o := (t.val - 1) * 128) (W := 128) sc_2.view _ inb _ _ y hoff rfl (Or.inl (by omega))).trans ?_
    rw [View.writes_nil, (Memref.isWhole_whole cc0_scratch2).read_unread]
    exact hd y hlt
  · have hq : (y 0).val / 128 + 1 = t.val := by omega
    have ht' : tB (y 0) = t := Fin.ext hq
    refine (View.read_writes_cons_rows_of_mem (o := (t.val - 1) * 128) sc_2.view _ inb _ _ y
      (ix2 (⟨(y 0).val % 128, Nat.mod_lt _ (by decide)⟩ : Fin 128) (y 1)) hoff ?_ rfl).trans ?_
    · show (y 0).val = (t.val - 1) * 128 + (y 0).val % 128
      omega
    · unfold overlaps
      have key : ∀ (u : Fin cfg0.N) (hu : cond2 (grid0.coords u)), u = t → overlapRows m c t h = overlapRows m c u hu := by
        intro u hu e; subst e; rfl
      rw [key _ (cond2_tB (y 0)) ht']

/-! ## The pipeline's proof data -/

/-- The proof data: the inputs stay at their blocks, the output is the compaction at the last point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => answer m c
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; exact Pipeline.Dat.Φ_castSucc (Inv m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = answer m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) : (dats m 0 c).leavesExact 0 t = owns (c : Thread nD τ) (st_0 t) fullShare (iblk m c 0 t) := by
  rw [show (dats m 0 c).leavesExact 0 t = owns (c : Thread nD τ) (st_0 t) fullShare ((dats m 0 c).after 0 t) from by
    unfold Dat.leavesExact; rw [live_0 t], after_0]
theorem leaves_1 (c : Dev nD) (t : Fin cfg0.N) : (dats m 0 c).leavesExact 1 t = owns (c : Thread nD τ) (st_1 t) fullShare (iblk m c 1 t) := by
  rw [show (dats m 0 c).leavesExact 1 t = owns (c : Thread nD τ) (st_1 t) fullShare ((dats m 0 c).after 1 t) from by
    unfold Dat.leavesExact; rw [live_1 t], after_1]
theorem leaves_2 (c : Dev nD) (t : Fin cfg0.N) : (dats m 0 c).leavesExact 2 t = owns (c : Thread nD τ) (st_2 t) fullShare (iblk m c 2 t) := by
  rw [show (dats m 0 c).leavesExact 2 t = owns (c : Thread nD τ) (st_2 t) fullShare ((dats m 0 c).after 2 t) from by
    unfold Dat.leavesExact; rw [live_2 t], after_2]

/-- The store of the sort's rows reads back as the sorted boxes. -/
theorem readA0 (c : Dev nD) (f : sc_0.view.ty.Contents (Elt F)) (x0 x1 x2) (h0 h1 h2)
    (e0 : x0 = iblk m c 0 tA) (e1 : x1 = iblk m c 1 tA) :
    sc_0.view.read (Elt F) (sc_0.view.writes (Elt F) f
      (runA c (grid0.coords tA) (st_0 tA) (hst_0 tA) (st_1 tA) (hst_1 tA) (st_2 tA) (hst_2 tA) (st_3 tA) (hst_3 tA)
        sc_0 (Memref.isWhole_whole _) sc_1 (Memref.isWhole_whole _) sc_2 (Memref.isWhole_whole _) h0 h1 h2 x0 x1 x2).1) = sorted0 m c := by
  subst e0 e1
  exact View.read_writes_full sc_0.view f inb_S1024x16_S1024x16_0_0 _ []
/-- The store of the sort's columns reads back as the sorted boxes. -/
theorem readA1 (c : Dev nD) (f : sc_1.view.ty.Contents (Elt F)) (x0 x1 x2) (h0 h1 h2)
    (e0 : x0 = iblk m c 0 tA) (e1 : x1 = iblk m c 1 tA) (e2 : x2 = iblk m c 2 tA) :
    sc_1.view.read (Elt F) (sc_1.view.writes (Elt F) f
      (runA c (grid0.coords tA) (st_0 tA) (hst_0 tA) (st_1 tA) (hst_1 tA) (st_2 tA) (hst_2 tA) (st_3 tA) (hst_3 tA)
        sc_0 (Memref.isWhole_whole _) sc_1 (Memref.isWhole_whole _) sc_2 (Memref.isWhole_whole _) h0 h1 h2 x0 x1 x2).2.1) = sorted1 m c := by
  subst e0 e1 e2
  exact View.read_writes_full sc_1.view f inb_S16x1024_S16x1024_0_0 _ []
/-- The store of the output reads back as the answer. -/
theorem readC (c : Dev nD) (f : (st_3 tC).view.ty.Contents (Elt F)) (h0 h1 h2) (d : Vec F S1024x1024 .f32) (hd : d = overlaps m c) :
    (st_3 tC).view.read (Elt F) ((st_3 tC).view.writes (Elt F) f
      (runC c (grid0.coords tC) (st_0 tC) (hst_0 tC) (st_1 tC) (hst_1 tC) (st_2 tC) (hst_2 tC) (st_3 tC) (hst_3 tC)
        sc_0 (Memref.isWhole_whole _) sc_1 (Memref.isWhole_whole _) sc_2 (Memref.isWhole_whole _) h0 h1 h2 (sorted0 m c) d).1) = answer m c := by
  subst hd
  exact View.read_writes_full (st_3 tC).view f inb_S1024x1_S1024x1_0_0 _ []

set_option maxHeartbeats 4800000 in
/-- The body at the first point sorts. -/
theorem sound_A (c : Dev nD) (t : Fin cfg0.N) (ht : t = tA) :
    bodyPre m c t ⊢ wp frame (wpE (defs₀ (F := F)) Variants.none c none) Set.univ (bodyAt0 t) (fun _ => bodyPost m c t) := by
  subst ht
  have hc0 : cond1 (grid0.coords tA) := (cond1_iff tA).mpr rfl
  have hc1 : ¬cond2 (grid0.coords tA) := fun h => absurd ((cond2_iff tA).mp h).1 (by decide)
  have hc2 : ¬cond3 (grid0.coords tA) := fun h => absurd ((cond3_iff tA).mp h) (by decide)
  unfold bodyPre bodyPost bodyAt0
  simp only [before_0, before_1, before_2]
  rw [show (dats m 0 c).owesAt () (tA).succ = (dats m 0 c).owesAt () (tA).castSucc from rfl]
  rw [show (dats m 0 c).Φ (tA).succ = Inv m c ((tA).val + 1) (tA).isLt from rfl, Inv_succ]
  rw [leaves_0, leaves_1, leaves_2, Dat.leavesExact_idle (dats m 0 c) 3 tA (idle_3 tA hc2) (noFlush_3 tA hc2)]
  rw [Inv_castSucc m c tA, Inv_zero m c _ _ rfl, PhiA_eq]
  iintro ⟨⟨⟨HS0, HS1, ⟨%d6, HS2⟩⟩, Hg⟩, Ho, ⟨%d0, H0⟩, ⟨%d1, H1⟩, ⟨%d2, H2⟩, ⟨%d3, H3⟩⟩
  iapply ((runA c (grid0.coords tA) _ _ _ _ _ _ _ _ _ _ _ _ _ _ hc0 hc1 hc2 (iblk m c 0 tA) (iblk m c 1 tA) (iblk m c 2 tA)).2.2 _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, HS2⟩
  isplitl [HS0 HS1 HS2 Hg]
  · isplitl [HS0 HS1 HS2]
    · isplitl [HS0]
      · unfold owns; iexists _; isplitr
        swap; · iexact HS0
        ipureintro; exact readA0 m c _ _ _ _ _ _ _ rfl rfl
      isplitl [HS1]
      · unfold owns; iexists _; isplitr
        swap; · iexact HS1
        ipureintro; exact readA1 m c _ _ _ _ _ _ _ rfl rfl rfl
      iexists d6; isplitr
      · ipureintro; intro y hy; exact absurd hy (Nat.not_lt_zero _)
      iexact HS2
    iexact Hg
  isplitl [Ho]; · iexact Ho
  isplitl [H0]; · iexact H0
  isplitl [H1]; · iexact H1
  isplitl [H2]; · iexact H2
  iexists _; iexact H3

set_option maxHeartbeats 4800000 in
/-- The body at a middle point adds a block of rows of overlaps. -/
theorem sound_B (c : Dev nD) (t : Fin cfg0.N) (ht : 1 ≤ t.val ∧ t.val ≤ 8) :
    bodyPre m c t ⊢ wp frame (wpE (defs₀ (F := F)) Variants.none c none) Set.univ (bodyAt0 t) (fun _ => bodyPost m c t) := by
  have hc0 : ¬cond1 (grid0.coords t) := fun h => absurd ((cond1_iff t).mp h) (by omega)
  have hc1 : cond2 (grid0.coords t) := (cond2_iff t).mpr ht
  have hc2 : ¬cond3 (grid0.coords t) := fun h => absurd ((cond3_iff t).mp h) (by omega)
  unfold bodyPre bodyPost bodyAt0
  simp only [before_0, before_1, before_2]
  rw [show (dats m 0 c).owesAt () t.succ = (dats m 0 c).owesAt () t.castSucc from rfl]
  rw [show (dats m 0 c).Φ t.succ = Inv m c (t.val + 1) t.isLt from rfl, Inv_succ]
  rw [leaves_0, leaves_1, leaves_2, Dat.leavesExact_idle (dats m 0 c) 3 t (idle_3 t hc2) (noFlush_3 t hc2)]
  rw [Inv_castSucc m c t, Inv_pos m c _ _ (by omega)]
  iintro ⟨⟨⟨HS0, HS1, ⟨%d6, %hd6, HS2⟩⟩, Hg⟩, Ho, ⟨%d0, H0⟩, ⟨%d1, H1⟩, ⟨%d2, H2⟩, ⟨%d3, H3⟩⟩
  iapply ((runB c (grid0.coords t) _ (hst_0 t) _ (hst_1 t) _ (hst_2 t) _ (hst_3 t) sc_0 (Memref.isWhole_whole _) sc_1 (Memref.isWhole_whole _) sc_2 (Memref.isWhole_whole _) hc0 hc1 hc2 (sorted0 m c) (sorted1 m c)).2 (iblk m c 0 t) (iblk m c 1 t) (iblk m c 2 t) _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexists _; isplitr
      swap
      · unfold owns; iexists _; isplitr
        swap; · iexact HS2
        ipureintro; rfl
      ipureintro; exact rows_step m c t ht d6 hd6 _ hc1
    iexact Hg
  isplitl [Ho]; · iexact Ho
  isplitl [H0]; · iexact H0
  isplitl [H1]; · iexact H1
  isplitl [H2]; · iexact H2
  iexists _; iexact H3

set_option maxHeartbeats 4800000 in
/-- The body at the last point suppresses and compacts. -/
theorem sound_C (c : Dev nD) (t : Fin cfg0.N) (ht : t = tC) :
    bodyPre m c t ⊢ wp frame (wpE (defs₀ (F := F)) Variants.none c none) Set.univ (bodyAt0 t) (fun _ => bodyPost m c t) := by
  subst ht
  have hc0 : ¬cond1 (grid0.coords tC) := fun h => absurd ((cond1_iff tC).mp h) (by decide)
  have hc1 : ¬cond2 (grid0.coords tC) := fun h => absurd ((cond2_iff tC).mp h).2 (by decide)
  have hc2 : cond3 (grid0.coords tC) := (cond3_iff tC).mpr rfl
  unfold bodyPre bodyPost bodyAt0
  simp only [before_0, before_1, before_2]
  rw [show (dats m 0 c).owesAt () (tC).succ = (dats m 0 c).owesAt () (tC).castSucc from rfl]
  rw [show (dats m 0 c).Φ (tC).succ = Inv m c ((tC).val + 1) (tC).isLt from rfl, Inv_succ]
  rw [leaves_0, leaves_1, leaves_2]
  rw [show (dats m 0 c).leavesExact 3 tC = owns (c : Thread nD τ) (st_3 tC) fullShare ((dats m 0 c).after 3 tC) from by
      unfold Dat.leavesExact; rw [live_3 tC hc2], after_3]
  rw [Inv_castSucc m c tC, Inv_pos m c _ _ (by decide)]
  iintro ⟨⟨⟨HS0, HS1, ⟨%d6, %hd6, HS2⟩⟩, Hg⟩, Ho, ⟨%d0, H0⟩, ⟨%d1, H1⟩, ⟨%d2, H2⟩, ⟨%d3, H3⟩⟩
  have hd : d6 = overlaps m c := funext fun y => hd6 y (by
    have h := (y 0).isLt
    exact Nat.lt_of_lt_of_eq h rfl)
  iapply ((runC c (grid0.coords tC) _ (hst_0 tC) _ (hst_1 tC) _ (hst_2 tC) _ (hst_3 tC) sc_0 (Memref.isWhole_whole _) sc_1 (Memref.isWhole_whole _) sc_2 (Memref.isWhole_whole _) hc0 hc1 hc2 (sorted0 m c) d6).2 (iblk m c 0 tC) (iblk m c 1 tC) (iblk m c 2 tC) (sorted1 m c) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HS0 HS1 HS2 Hg]
  · isplitl [HS0 HS1 HS2]
    · isplitl [HS0]; · iexact HS0
      isplitl [HS1]; · iexact HS1
      iexists d6; isplitr
      · ipureintro; intro y _; rw [hd]
      iexact HS2
    iexact Hg
  isplitl [Ho]; · iexact Ho
  isplitl [H0]; · iexact H0
  isplitl [H1]; · iexact H1
  isplitl [H2]; · iexact H2
  unfold owns; iexists _; isplitr
  swap; · iexact H3
  ipureintro; exact readC m c _ _ _ _ d6 hd

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 10 := lt_of_lt_of_eq t.isLt (show cfg0.N = 10 from N_0)
  by_cases h0 : t.val = 0
  · exact sound_A m c t (Fin.ext h0)
  by_cases h9 : t.val = 9
  · exact sound_C m c t (Fin.ext h9)
  · exact sound_B m c t (by omega)

/-- The body table's row at point `t` is the body. -/
theorem body_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands over is the invariant before the first point. -/
theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After the last point the invariant gives the scratch buffers back. -/
theorem inv_out (c : Dev nD) : (dats m 0 c).Φ (Fin.last cfg0.N) ⊢ Pipeline.ΦA spec0 c := by
  have ht : (Fin.last cfg0.N).val ≠ 0 := by rw [Fin.val_last]; have : cfg0.N = 10 := N_0; omega
  rw [show (dats m 0 c).Φ (Fin.last cfg0.N) = Inv m c (Fin.last cfg0.N).val (Nat.le_of_lt_succ (Fin.last cfg0.N).isLt) from rfl,
    Inv_pos m c _ _ ht, PhiA_eq]
  iintro ⟨⟨HS0, HS1, ⟨%d6, %hd6, HS2⟩⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
set_option maxHeartbeats 800000 in
/-- Every run ends with the arrays as the proof data say and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The same without the counters. -/
theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_post m ρ)) ((θ_run defs _ _).mono (fun _ h => h.2) (run_quiescent m ρ))

end Cert.KernelIdeal.Body

end
-- ==== Proof.Value.Constants.lean ====
module
public import proofs.«01_k».proof.Proof.Body.KernelIdealFrame
public import Idealize.ShloMosaic.Lib.IdealHost
@[expose] public section

/-!
# The float constants of both programs, as reals
-/

open Idealize.ShloMosaic

namespace Cert.Value

/-- The least step a clip divides by. -/
noncomputable def tiny : ℝ := 12379400 / 2 ^ 90

/-- The least product of two steps. -/
noncomputable def least : ℝ := 13937966 / 2 ^ 140

/-- The number added to a union of areas. -/
noncomputable def slack : ℝ := 9007199 / 2 ^ 53

/-- The score of a padding box. -/
noncomputable def padScore : ℝ := -(13234890 * 2 ^ 76)

theorem ofBits_half : Ideal.ofBits .f32 1056964608#32 = ((1 / 2 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem ofBits_neg_one : Ideal.ofBits .f32 3212836864#32 = ((-1 : ℝ) : EReal) := by
  simp [Ideal.ofBits, Ideal.ieee, -EReal.coe_mul, -EReal.coe_neg]; norm_num

theorem ofBits_neg_two : Ideal.ofBits .f32 3221225472#32 = ((-2 : ℝ) : EReal) := by
  simp [Ideal.ofBits, Ideal.ieee, -EReal.coe_mul, -EReal.coe_neg]; norm_num

theorem ofBits_tiny : Ideal.ofBits .f32 507307272#32 = ((tiny : ℝ) : EReal) := by
  simp [tiny, Ideal.ofBits, Ideal.ieee, -EReal.coe_mul]; norm_num

theorem ofBits_neg_tiny : Ideal.ofBits .f32 2654790920#32 = ((-tiny : ℝ) : EReal) := by
  simp [tiny, Ideal.ofBits, Ideal.ieee, -EReal.coe_mul, -EReal.coe_neg]; norm_num

theorem ofBits_least : Ideal.ofBits .f32 89435438#32 = ((least : ℝ) : EReal) := by
  simp [least, Ideal.ofBits, Ideal.ieee, -EReal.coe_mul]; norm_num

theorem ofBits_slack : Ideal.ofBits .f32 814313567#32 = ((slack : ℝ) : EReal) := by
  simp [slack, Ideal.ofBits, Ideal.ieee, -EReal.coe_mul]; norm_num

theorem ofBits_padScore : Ideal.ofBits .f32 4048155338#32 = ((padScore : ℝ) : EReal) := by
  simp [padScore, Ideal.ofBits, Ideal.ieee, -EReal.coe_mul, -EReal.coe_neg]

theorem tiny_pos : 0 < tiny := by unfold tiny; positivity
theorem least_pos : 0 < least := by unfold least; positivity
theorem slack_pos : 0 < slack := by unfold slack; positivity

/-- A real divided by a real above zero is their quotient. -/
theorem div_pos_coe (a b : ℝ) (hb : 0 < b) : Ideal.div (a : EReal) (b : EReal) = ((a / b : ℝ) : EReal) := by
  have : (b : EReal) ≠ 0 := by exact_mod_cast hb.ne'
  unfold Ideal.div
  rw [if_neg this, ← EReal.coe_inv, ← EReal.coe_mul, div_eq_mul_inv]

/-- A choice between two reals is a real. -/
theorem ite_coe (P : Prop) [Decidable P] (a b : ℝ) :
    (if P then (a : EReal) else (b : EReal)) = ((if P then a else b : ℝ) : EReal) := by
  split <;> rfl

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

/-- A real divided by a real that is not zero is their quotient. -/
theorem div_ne_coe (a b : ℝ) (hb : b ≠ 0) : Ideal.div (a : EReal) (b : EReal) = ((a / b : ℝ) : EReal) := by
  have : (b : EReal) ≠ 0 := by exact_mod_cast hb
  unfold Ideal.div
  rw [if_neg this, ← EReal.coe_inv, ← EReal.coe_mul, div_eq_mul_inv]

/-- A sum of four reals is a real. -/
theorem sum_four_coe (f : Fin 4 → ℝ) : (∑ k, (f k : EReal)) = ((∑ k, f k : ℝ) : EReal) := by
  simp only [Fin.sum_univ_four, EReal.coe_add]

end Cert.Value
-- ==== Proof.Value.PrefixK.lean ====
module
public import proofs.«01_k».proof.Proof.Gen.KernelIdeal.Launch
public import Idealize.ShloMosaic.Lib.Pointwise
public import Idealize.ShloMosaic.Lib.StableHlo.ReadAt
public import Idealize.ShloMosaic.Lib.Routing.OpsSet
public import proofs.«01_k».proof.Proof.Value.Constants
@[expose] public section
set_option maxRecDepth 16384
set_option maxHeartbeats 400000

/-!
# The kernel's table of boxes

The host builds a table of sixteen columns by setting columns of a zero table.
-/

open Idealize.ShloMosaic Idealize.ShloMosaic.TcCoe
open Cert Cert.KernelIdeal Cert.KernelIdeal.Gen

namespace Cert.Value

/-- Where update `k` of a setting of one column of the whole table lands. -/
theorem lands_col (k : Fin 1024) (idx : IVec S1 32) (r : Fin 1024) (c : Fin 16) :
    scatter_S1024x16_S1_S1024_0_1_1_0.resultIdx? (ix1 k) idx = some (ix2 r c) ↔ k = r ∧ (idx (ix1 0)).toInt = c.val := by
  refine (Routing.resultIdx?_ix2 (R := 1024) (C := 16) scatter_S1024x16_S1_S1024_0_1_1_0 (ix1 k) idx r c).trans ?_
  have w0 : scatter_S1024x16_S1_S1024_0_1_1_0.window (ix1 k) 0 = k.val := rfl
  have w1 : scatter_S1024x16_S1_S1024_0_1_1_0.window (ix1 k) 1 = 0 := rfl
  have s0 : scatter_S1024x16_S1_S1024_0_1_1_0.start (ix1 k) idx 0 = 0 := rfl
  have s1 : scatter_S1024x16_S1_S1024_0_1_1_0.start (ix1 k) idx 1 = (idx (ix1 0)).toInt := by
    refine congrArg (fun j => (idx j).toInt) ?_
    funext b; fin_cases b; rfl
  rw [w0, w1, s0, s1, Fin.ext_iff]
  omega

/-- Where update `k` of a setting of the first thousand rows of a column lands. -/
theorem lands_part (k : Fin 1000) (idx : IVec S2 32) (r : Fin 1024) (c : Fin 16) (h : (idx (ix1 0)).toInt = 0) :
    scatter_S1024x16_S2_S1000_0_1_01_0.resultIdx? (ix1 k) idx = some (ix2 r c) ↔ k.val = r.val ∧ (idx (ix1 1)).toInt = c.val := by
  refine (Routing.resultIdx?_ix2 (R := 1024) (C := 16) scatter_S1024x16_S2_S1000_0_1_01_0 (ix1 k) idx r c).trans ?_
  have w0 : scatter_S1024x16_S2_S1000_0_1_01_0.window (ix1 k) 0 = k.val := rfl
  have w1 : scatter_S1024x16_S2_S1000_0_1_01_0.window (ix1 k) 1 = 0 := rfl
  have s0 : scatter_S1024x16_S2_S1000_0_1_01_0.start (ix1 k) idx 0 = (idx (ix1 0)).toInt := by
    refine congrArg (fun j => (idx j).toInt) ?_
    funext b; fin_cases b; rfl
  have s1 : scatter_S1024x16_S2_S1000_0_1_01_0.start (ix1 k) idx 1 = (idx (ix1 1)).toInt := by
    refine congrArg (fun j => (idx j).toInt) ?_
    funext b; fin_cases b; rfl
  rw [w0, w1, s0, s1, h]
  omega

/-- Where update `(k, l)` of a setting of the first rows and columns lands. -/
theorem lands_block (k : Fin 1000) (l : Fin 4) (idx : IVec S2 32) (r : Fin 1024) (c : Fin 16) (h : (idx (ix1 0)).toInt = 0) (h' : (idx (ix1 1)).toInt = 0) :
    scatter_S1024x16_S2_S1000x4_01_n_01_0.resultIdx? (ix2 k l) idx = some (ix2 r c) ↔ k.val = r.val ∧ l.val = c.val := by
  refine (Routing.resultIdx?_ix2 (R := 1024) (C := 16) scatter_S1024x16_S2_S1000x4_01_n_01_0 (ix2 k l) idx r c).trans ?_
  have w0 : scatter_S1024x16_S2_S1000x4_01_n_01_0.window (ix2 k l) 0 = k.val := rfl
  have w1 : scatter_S1024x16_S2_S1000x4_01_n_01_0.window (ix2 k l) 1 = l.val := rfl
  have s0 : scatter_S1024x16_S2_S1000x4_01_n_01_0.start (ix2 k l) idx 0 = (idx (ix1 0)).toInt := by
    refine congrArg (fun j => (idx j).toInt) ?_
    funext b; fin_cases b; rfl
  have s1 : scatter_S1024x16_S2_S1000x4_01_n_01_0.start (ix2 k l) idx 1 = (idx (ix1 1)).toInt := by
    refine congrArg (fun j => (idx j).toInt) ?_
    funext b; fin_cases b; rfl
  rw [w0, w1, s0, s1, h, h']
  omega

variable {α : Type}

/-- Setting a whole column, read. -/
theorem set_col (x : S1024x16.Idx → α) (idx : IVec S1 32) (v : S1024.Idx → α) (n : Nat) (hn : (idx (ix1 0)).toInt = n) (r : Fin 1024) (c : Fin 16) :
    Host.scatter scatter_S1024x16_S1_S1024_0_1_1_0 (fun _ b => b) x idx v (ix2 r c) = if c.val = n then v (ix1 r) else x (ix2 r c) := by
  split
  · rename_i h
    refine Routing.scatter_set_hit _ x idx v (ix2 r c) _ (fun k hk => ?_) (ix1 r) ((lands_col r idx r c).2 ⟨rfl, by omega⟩)
    obtain ⟨k, rfl⟩ : ∃ q, k = ix1 q := ⟨k 0, by funext a; fin_cases a; rfl⟩
    rw [((lands_col k idx r c).1 hk).1]
  · rename_i h
    refine Routing.scatter_set_miss _ x idx v (ix2 r c) (fun k hk => ?_)
    obtain ⟨k, rfl⟩ : ∃ q, k = ix1 q := ⟨k 0, by funext a; fin_cases a; rfl⟩
    have := ((lands_col k idx r c).1 hk).2
    omega

/-- Setting the first thousand rows of a column, read in those rows. -/
theorem set_part (x : S1024x16.Idx → α) (idx : IVec S2 32) (v : S1000.Idx → α) (n : Nat) (h0 : (idx (ix1 0)).toInt = 0) (hn : (idx (ix1 1)).toInt = n)
    (a : Fin 1000) (r : Fin 1024) (hr : a.val = r.val) (c : Fin 16) :
    Host.scatter scatter_S1024x16_S2_S1000_0_1_01_0 (fun _ b => b) x idx v (ix2 r c) = if c.val = n then v (ix1 a) else x (ix2 r c) := by
  split
  · rename_i h
    refine Routing.scatter_set_hit _ x idx v (ix2 r c) _ (fun k hk => ?_) (ix1 a) ((lands_part a idx r c h0).2 ⟨hr, by omega⟩)
    obtain ⟨k, rfl⟩ : ∃ q, k = ix1 q := ⟨k 0, by funext a; fin_cases a; rfl⟩
    rw [show k = a from Fin.ext (by have := ((lands_part k idx r c h0).1 hk).1; omega)]
  · rename_i h
    refine Routing.scatter_set_miss _ x idx v (ix2 r c) (fun k hk => ?_)
    obtain ⟨k, rfl⟩ : ∃ q, k = ix1 q := ⟨k 0, by funext a; fin_cases a; rfl⟩
    have := ((lands_part k idx r c h0).1 hk).2
    omega

/-- Setting the first thousand rows of the first four columns, read there. -/
theorem set_block (x : S1024x16.Idx → α) (idx : IVec S2 32) (v : S1000x4.Idx → α) (h0 : (idx (ix1 0)).toInt = 0) (h1 : (idx (ix1 1)).toInt = 0)
    (a : Fin 1000) (r : Fin 1024) (hr : a.val = r.val) (l : Fin 4) (c : Fin 16) (hc : l.val = c.val) :
    Host.scatter scatter_S1024x16_S2_S1000x4_01_n_01_0 (fun _ b => b) x idx v (ix2 r c) = v (ix2 a l) := by
  refine Routing.scatter_set_hit _ x idx v (ix2 r c) _ (fun k hk => ?_) (ix2 a l) ((lands_block a l idx r c h0 h1).2 ⟨hr, hc⟩)
  obtain ⟨k, m, rfl⟩ : ∃ q m, k = ix2 q m := ⟨k 0, k 1, by funext a; fin_cases a <;> rfl⟩
  have := (lands_block k m idx r c h0 h1).1 hk
  rw [show k = a from Fin.ext (by omega), show m = l from Fin.ext (by omega)]

/-- The scores, then the score of a padding row. -/
noncomputable def padded (g : FVec Ideal S1000 .f32) (k : Fin 1024) : EReal :=
  if h : k.val < 1000 then g (ix1 ⟨k.val, h⟩) else Ideal.ofBits .f32 4048155338#32

variable (W : Valuation τ sig (Elt Ideal))

/-- The padded scores. -/
theorem scores_read (g : FVec Ideal S1000 .f32) (hg : (W main_arg1 : Vec Ideal S1000 .f32) = g) (k : Fin 1024) :
    (StableHlo.after hostOps0 W main_v1 : Vec Ideal S1024 .f32) (ix1 k) = padded g k := by
  have e : (StableHlo.after hostOps0 W main_v1 : Vec Ideal S1024 .f32) = concatenate S1024 0 [⟨S1000, g⟩,
      ⟨S24, (broadcastInDim S24 ![] bcast_S_S24 (constant S_ .f32 0xF149F2CA#32) : FVec Ideal S24 .f32)⟩] concatenates_S1000_S24_S1024_d0 := by
    rw [← hg]
    unfold hostOps0; after_reads_simp; first | done | rfl
  rw [e]
  unfold padded
  pointwise

/-- The padded scores as a row. -/
theorem row_read : (StableHlo.after hostOps0 W main_v28 : Vec Ideal S1x1024 .f32) =
    broadcastInDim S1x1024 ![1] bcast_S1024_S1x1024_1 (StableHlo.after hostOps0 W main_v1 : Vec Ideal S1024 .f32) := by
  unfold hostOps0; after_reads_simp; first | done | rfl

/-- The table, turned. -/
theorem turned_read : (StableHlo.after hostOps0 W main_v27 : Vec Ideal S16x1024 .f32) =
    transpose S16x1024 [1, 0] (StableHlo.after hostOps0 W main_v26 : Vec Ideal S1024x16 .f32) transposes_S1024x16_S16x1024_1_0 := by
  unfold hostOps0; after_reads_simp; first | done | rfl

/-- The index words zero and `n`. -/
noncomputable abbrev pairWord (n : BitVec 32) : IVec S2 32 :=
  concatenate S2 0 [⟨S1, broadcastInDim S1 ![] bcast_S_S1 (constantI S_ 32 0#32)⟩, ⟨S1, broadcastInDim S1 ![] bcast_S_S1 (constantI S_ 32 n)⟩] concatenates_S1_S1_S2_d0

/-- The index word `n`. -/
noncomputable abbrev oneWord (n : BitVec 32) : IVec S1 32 := broadcastInDim S1 ![] bcast_S_S1 (constantI S_ 32 n)

/-- The table is five settings of a table of zeros. -/
theorem table_read (x : FVec Ideal S1000x5 .f32) (hx : (W main_arg0 : Vec Ideal S1000x5 .f32) = x) : ∃ i0 i1 i2 : IVec S2 32, ∃ i3 i4 : IVec S1 32,
    ((i0 (ix1 0)).toInt = 0 ∧ (i0 (ix1 1)).toInt = 0 ∧ (i1 (ix1 0)).toInt = 0 ∧ (i1 (ix1 1)).toInt = 4 ∧ (i2 (ix1 0)).toInt = 0 ∧ (i2 (ix1 1)).toInt = 5 ∧
      (i3 (ix1 0)).toInt = 6 ∧ (i4 (ix1 0)).toInt = 7) ∧
    (StableHlo.after hostOps0 W main_v26 : Vec Ideal S1024x16 .f32) =
      Host.scatter scatter_S1024x16_S1_S1024_0_1_1_0 (fun _ b => b)
       (Host.scatter scatter_S1024x16_S1_S1024_0_1_1_0 (fun _ b => b)
        (Host.scatter scatter_S1024x16_S2_S1000_0_1_01_0 (fun _ b => b)
         (Host.scatter scatter_S1024x16_S2_S1000_0_1_01_0 (fun _ b => b)
          (Host.scatter scatter_S1024x16_S2_S1000x4_01_n_01_0 (fun _ b => b)
            (broadcastInDim S1024x16 ![] bcast_S_S1024x16 (constant (F := Ideal) S_ .f32 0x00000000#32)) i0 (extractStridedSlice S1000x4 ![0, 0] x slices_S1000x5_S1000x4_0_0))
          i1 (Host.cos (shapeCast S1000 (extractStridedSlice S1000x1 ![0, 4] x slices_S1000x5_S1000x1_0_4) shapeCasts_S1000x1_S1000)))
         i2 (Host.sin (shapeCast S1000 (extractStridedSlice S1000x1 ![0, 4] x slices_S1000x5_S1000x1_0_4) shapeCasts_S1000x1_S1000)))
        i3 (sitofp .f32 (iotaInDim S1024 32 0)))
       i4 (StableHlo.after hostOps0 W main_v1 : Vec Ideal S1024 .f32) := by
  refine ⟨pairWord 0#32, pairWord 4#32, pairWord 5#32, oneWord 6#32, oneWord 7#32, ?_, ?_⟩
  rotate_left
  · rw [← hx]
    unfold hostOps0; after_reads_simp; first | done | rfl
  · exact ⟨rfl, rfl, rfl, rfl, rfl, rfl, rfl, rfl⟩

/-- The vector of angles, read. -/
theorem angle_read (x : FVec Ideal S1000x5 .f32) (a : Fin 1000) :
    (shapeCast S1000 (extractStridedSlice S1000x1 ![0, 4] x slices_S1000x5_S1000x1_0_4) shapeCasts_S1000x1_S1000 : FVec Ideal S1000 .f32) (ix1 a) = x (ix2 a 4) := by
  pointwise

/-- The four numbers of a box. -/
theorem table_block (x : FVec Ideal S1000x5 .f32) (hx : (W main_arg0 : Vec Ideal S1000x5 .f32) = x) (a : Fin 1000) (r : Fin 1024) (hr : a.val = r.val)
    (l : Fin 4) (k : Fin 16) (hk : l.val = k.val) (j : Fin 5) (hj : l.val = j.val) :
    (StableHlo.after hostOps0 W main_v26 : Vec Ideal S1024x16 .f32) (ix2 r k) = x (ix2 a j) := by
  obtain ⟨i0, i1, i2, i3, i4, ⟨h0, h0', h1, h1', h2, h2', h3, h4⟩, e⟩ := table_read W x hx
  have hl := l.isLt
  rw [e, set_col _ _ _ 7 h4, if_neg (by omega), set_col _ _ _ 6 h3, if_neg (by omega), set_part _ _ _ 5 h2 h2' a r hr, if_neg (by omega),
    set_part _ _ _ 4 h1 h1' a r hr, if_neg (by omega), set_block _ _ _ h0 h0' a r hr l k hk]
  rw [show j = ⟨l.val, by omega⟩ from Fin.ext hj.symm]
  pointwise

/-- The cosine of a box's angle. -/
theorem table_cos (x : FVec Ideal S1000x5 .f32) (hx : (W main_arg0 : Vec Ideal S1000x5 .f32) = x) (a : Fin 1000) (r : Fin 1024) (hr : a.val = r.val) :
    (StableHlo.after hostOps0 W main_v26 : Vec Ideal S1024x16 .f32) (ix2 r 4) = Ideal.cos (x (ix2 a 4)) := by
  obtain ⟨i0, i1, i2, i3, i4, ⟨h0, h0', h1, h1', h2, h2', h3, h4⟩, e⟩ := table_read W x hx
  rw [e, set_col _ _ _ 7 h4, if_neg (by decide), set_col _ _ _ 6 h3, if_neg (by decide), set_part _ _ _ 5 h2 h2' a r hr, if_neg (by decide),
    set_part _ _ _ 4 h1 h1' a r hr, if_pos (by decide)]
  exact congrArg Ideal.cos (angle_read x a)

/-- The sine of a box's angle. -/
theorem table_sin (x : FVec Ideal S1000x5 .f32) (hx : (W main_arg0 : Vec Ideal S1000x5 .f32) = x) (a : Fin 1000) (r : Fin 1024) (hr : a.val = r.val) :
    (StableHlo.after hostOps0 W main_v26 : Vec Ideal S1024x16 .f32) (ix2 r 5) = Ideal.sin (x (ix2 a 4)) := by
  obtain ⟨i0, i1, i2, i3, i4, ⟨h0, h0', h1, h1', h2, h2', h3, h4⟩, e⟩ := table_read W x hx
  rw [e, set_col _ _ _ 7 h4, if_neg (by decide), set_col _ _ _ 6 h3, if_neg (by decide), set_part _ _ _ 5 h2 h2' a r hr, if_pos (by decide)]
  exact congrArg Ideal.sin (angle_read x a)

/-- A small word's number. -/
theorem num_word (n : Nat) (h : n < 2 ^ 31) : (FloatOps.sitofp .f32 (BitVec.ofNat 32 n) : Ideal .f32) = ((n : ℝ) : EReal) := by
  show (((BitVec.ofNat 32 n).toInt : ℝ) : EReal) = _
  rw [StableHlo.Predicate.toInt_ofNat_small _ h]
  norm_num

/-- The row's own number. -/
theorem table_number (r : Fin 1024) :
    (StableHlo.after hostOps0 W main_v26 : Vec Ideal S1024x16 .f32) (ix2 r 6) = ((r.val : ℝ) : EReal) := by
  obtain ⟨i0, i1, i2, i3, i4, ⟨h0, h0', h1, h1', h2, h2', h3, h4⟩, e⟩ := table_read W _ rfl
  rw [e, set_col _ _ _ 7 h4, if_neg (by decide), set_col _ _ _ 6 h3, if_pos (by decide)]
  pointwise
  exact num_word r.val (by have := r.isLt; omega)

/-- The row's score. -/
theorem table_score (g : FVec Ideal S1000 .f32) (hg : (W main_arg1 : Vec Ideal S1000 .f32) = g) (r : Fin 1024) :
    (StableHlo.after hostOps0 W main_v26 : Vec Ideal S1024x16 .f32) (ix2 r 7) = padded g r := by
  obtain ⟨i0, i1, i2, i3, i4, ⟨h0, h0', h1, h1', h2, h2', h3, h4⟩, e⟩ := table_read W _ rfl
  rw [e, set_col _ _ _ 7 h4, if_pos (by decide), scores_read W g hg]

/-- An entry of the table turned. -/
theorem turned_entry (c : Fin 16) (r : Fin 1024) :
    (StableHlo.after hostOps0 W main_v27 : Vec Ideal S16x1024 .f32) (ix2 c r) = (StableHlo.after hostOps0 W main_v26 : Vec Ideal S1024x16 .f32) (ix2 r c) := by
  rw [turned_read]
  pointwise

/-- An entry of the row of scores. -/
theorem row_entry (g : FVec Ideal S1000 .f32) (hg : (W main_arg1 : Vec Ideal S1000 .f32) = g) (r : Fin 1024) :
    (StableHlo.after hostOps0 W main_v28 : Vec Ideal S1x1024 .f32) (ix2 0 r) = padded g r := by
  rw [row_read, ← scores_read W g hg]
  pointwise

end Cert.Value
end
-- ==== Proof.Value.Bits.lean ====
module
public import proofs.«01_k».proof.Proof.Value.Constants
public import Idealize.ShloMosaic.Lib.Pointwise
public import Mathlib.Algebra.BigOperators.Ring.Finset
@[expose] public section

/-!
# Bits, counts and sums of choices
-/

open Idealize.ShloMosaic

namespace Cert.Value

/-- A bit as a number. -/
theorem bit_num (b : Bool) : (FloatOps.sitofp (F := Ideal) .f32 (BitVec.setWidth 32 (BitVec.ofBool b)) : EReal) = if b then 1 else 0 := by
  cases b
  · show (((BitVec.setWidth 32 (BitVec.ofBool false)).toInt : ℝ) : EReal) = 0
    have : (BitVec.setWidth 32 (BitVec.ofBool false)).toInt = 0 := by decide
    rw [this]; simp
  · show (((BitVec.setWidth 32 (BitVec.ofBool true)).toInt : ℝ) : EReal) = 1
    have : (BitVec.setWidth 32 (BitVec.ofBool true)).toInt = 1 := by decide
    rw [this]; simp

/-- A small word is the number itself. -/
theorem toInt_small (k : Nat) (hk : k < 2 ^ 31) : (BitVec.ofNat 32 k).toInt = (k : Int) := by
  have h : (BitVec.ofNat 32 k).toNat = k := by rw [BitVec.toNat_ofNat]; omega
  rw [BitVec.toInt_eq_toNat_of_lt (by omega), h]

theorem word_num (k : Nat) (hk : k < 2 ^ 31) : (FloatOps.sitofp (F := Ideal) .f32 (BitVec.ofNat 32 k) : EReal) = ((k : ℝ) : EReal) := by
  show (((BitVec.ofNat 32 k).toInt : ℝ) : EReal) = _
  rw [toInt_small k hk]; simp

theorem or_bit (a b : Bool) : IntOp.ori (BitVec.ofBool a) (BitVec.ofBool b) = BitVec.ofBool (a || b) := by
  cases a <;> cases b <;> rfl

theorem and_bit (a b : Bool) : IntOp.andi (BitVec.ofBool a) (BitVec.ofBool b) = BitVec.ofBool (a && b) := by
  cases a <;> cases b <;> rfl

theorem slt_bit (a b : Nat) (ha : a < 2 ^ 31) (hb : b < 2 ^ 31) :
    IntOp.cmpi .slt (BitVec.ofNat 32 a) (BitVec.ofNat 32 b) = BitVec.ofBool (decide (a < b)) := by
  simp only [IntOp.cmpi, BitVec.slt, toInt_small a ha, toInt_small b hb, Nat.cast_lt]

theorem sgt_bit (a b : Nat) (ha : a < 2 ^ 31) (hb : b < 2 ^ 31) :
    IntOp.cmpi .sgt (BitVec.ofNat 32 a) (BitVec.ofNat 32 b) = BitVec.ofBool (decide (b < a)) := by
  simp only [IntOp.cmpi, BitVec.slt, toInt_small a ha, toInt_small b hb, Nat.cast_lt]

theorem eq_bit (a b : Nat) (ha : a < 2 ^ 31) (hb : b < 2 ^ 31) :
    IntOp.cmpi .eq (BitVec.ofNat 32 a) (BitVec.ofNat 32 b) = BitVec.ofBool (decide (a = b)) := by
  simp only [IntOp.cmpi]
  congr 1
  rw [Bool.eq_iff_iff]
  simp only [beq_iff_eq, decide_eq_true_eq]
  constructor
  · intro h
    have := congrArg BitVec.toInt h
    rw [toInt_small a ha, toInt_small b hb] at this
    exact_mod_cast this
  · rintro rfl; rfl

/-- A choice by a bit. -/
theorem select_bit {α : Type} (b : Bool) (x y : α) : Scalar.select (BitVec.ofBool b) x y = if b then x else y := by
  cases b <;> rfl

/-- A sum of zeros and ones is a count. -/
theorem sum_count {n : Nat} (P : Fin n → Prop) [DecidablePred P] :
    (∑ x, (if P x then 1 else 0 : EReal)) = (((Finset.univ.filter P).card : ℝ) : EReal) := by
  rw [Finset.sum_boole]; simp

/-- A sum that chooses one entry. -/
theorem sum_pick {n : Nat} (P : Fin n → Prop) [DecidablePred P] (v : Fin n → EReal) (i : Fin n) (h : ∀ x, P x ↔ x = i) :
    (∑ x, (if P x then 1 else 0 : EReal) * v x) = v i := by
  simp only [h, ite_mul, one_mul, zero_mul]
  simp

/-- Counts are equal as numbers only when they are equal. -/
theorem num_eq (a b : Nat) : ((a : ℝ) : EReal) = ((b : ℝ) : EReal) ↔ a = b := by
  rw [EReal.coe_eq_coe_iff, Nat.cast_inj]

theorem num_lt (a b : Nat) : ((a : ℝ) : EReal) < ((b : ℝ) : EReal) ↔ a < b := by
  rw [EReal.coe_lt_coe_iff, Nat.cast_lt]

theorem ofBits_thousand : Ideal.ofBits .f32 1148846080#32 = (((1000 : Nat) : ℝ) : EReal) := by
  simp [Ideal.ofBits, Ideal.ieee, -EReal.coe_mul]; norm_num

end Cert.Value
-- ==== Proof.Math.Rank.lean ====
module
public import Idealize.ShloMosaic.Lib.SortPrefix
public import Mathlib.Data.Fintype.Card
public import Mathlib.Order.Defs.LinearOrder
@[expose] public section

/-!
# Ranks and stable sorts

A stable sort by a key puts at place `i` the element with exactly `i` elements before it, where
ties are broken by position.
-/

open Idealize.ShloMosaic

namespace Cert.Rank

variable {n : Nat} {κ : Type} [LinearOrder κ]

/-- Before by key, and at equal keys by position. -/
def pre (key : Fin n → κ) (a b : Fin n) : Prop := key a < key b ∨ (key a = key b ∧ a < b)

instance (key : Fin n → κ) (a b : Fin n) : Decidable (pre key a b) := by unfold pre; infer_instance

theorem pre_irrefl (key : Fin n → κ) (a : Fin n) : ¬ pre key a a := by
  rintro (h | ⟨_, h⟩) <;> exact lt_irrefl _ h

theorem pre_trans (key : Fin n → κ) {a b c : Fin n} (h : pre key a b) (h' : pre key b c) : pre key a c := by
  rcases h with h | ⟨h, g⟩ <;> rcases h' with h' | ⟨h', g'⟩
  · exact .inl (h.trans h')
  · exact .inl (h' ▸ h)
  · exact .inl (h ▸ h')
  · exact .inr ⟨h.trans h', g.trans g'⟩

theorem pre_total (key : Fin n → κ) {a b : Fin n} (h : a ≠ b) : pre key a b ∨ pre key b a := by
  rcases lt_trichotomy (key a) (key b) with g | g | g
  · exact .inl (.inl g)
  · rcases lt_or_gt_of_ne h with h | h
    · exact .inl (.inr ⟨g, h⟩)
    · exact .inr (.inr ⟨g.symm, h⟩)
  · exact .inr (.inl g)

/-- The order by key and position, as a comparison. -/
def preB (key : Fin n → κ) (a b : Fin n) : Bool := decide (pre key a b)

theorem preB_strict (key : Fin n → κ) : StrictTotalBefore (preB key) where
  irrefl a := by simpa [preB] using pre_irrefl key a
  trans a b c h h' := by
    simp only [preB, decide_eq_true_eq] at *; exact pre_trans key h h'
  total a b h := by
    simp only [preB, decide_eq_true_eq]; exact pre_total key h

/-- Sorting ordered positions by key alone keeps the order of equal keys. -/
theorem stableSort_key (key : Fin n → κ) (l : List (Fin n)) (hl : l.Pairwise (· < ·)) :
    stableSort (fun a b => decide (key a < key b)) l = stableSort (preB key) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ _).mem_iff.mp hb)
    refine decide_eq_decide.mpr ⟨.inl, ?_⟩
    rintro (h | ⟨_, h⟩)
    · exact h
    · exact absurd h (not_lt.mpr hab.le)

/-- The element at each place of the stable sort by key. -/
def place (key : Fin n → κ) : Fin n → Fin n := sortedFrom (preB key)

theorem sortedFrom_key (key : Fin n → κ) : sortedFrom (fun a b => decide (key a < key b)) = place key := by
  funext k
  unfold place sortedFrom sortPositions
  rw [List.get_of_eq (stableSort_key key _ (List.pairwise_lt_finRange n))]
  rfl

theorem place_injective (key : Fin n → κ) : Function.Injective (place key) := sortedFrom_injective _

theorem place_surjective (key : Fin n → κ) : Function.Surjective (place key) := sortedFrom_surjective _

/-- Places are ordered as the elements at them. -/
theorem pre_place (key : Fin n → κ) (i j : Fin n) : pre key (place key i) (place key j) ↔ i < j := by
  have up {i j : Fin n} (h : i < j) : pre key (place key i) (place key j) := by
    have hs := preB_strict key
    have h1 : preB key (place key j) (place key i) = false :=
      sortedFrom_noInversion (preB key) (preB key) hs.asymm (fun _ _ h => h) hs.negTrans i j h
    rcases pre_total key (fun e => h.ne (place_injective key e)) with h2 | h2
    · exact h2
    · simp only [preB, decide_eq_false_iff_not] at h1; exact absurd h2 h1
  refine ⟨fun h => ?_, up⟩
  rcases lt_trichotomy i j with g | g | g
  · exact g
  · subst g; exact absurd h (pre_irrefl key _)
  · exact absurd (pre_trans key h (up g)) (pre_irrefl key _)

/-- The number of elements before an element. -/
def rank (key : Fin n → κ) (a : Fin n) : Nat := (Finset.univ.filter fun k => pre key k a).card

theorem rank_place (key : Fin n → κ) (i : Fin n) : rank key (place key i) = i.val := by
  unfold rank
  have : (Finset.univ.filter fun k => pre key k (place key i)) = (Finset.univ.filter fun j : Fin n => j < i).image (place key) := by
    ext k
    obtain ⟨j, rfl⟩ := place_surjective key k
    simp only [Finset.mem_filter, Finset.mem_univ, true_and, Finset.mem_image, pre_place]
    constructor
    · intro h; exact ⟨j, h, rfl⟩
    · rintro ⟨j', h, e⟩; rw [place_injective key e] at h; exact h
  rw [this, Finset.card_image_of_injective _ (place_injective key)]
  have : (Finset.univ.filter fun j : Fin n => j < i) = Finset.Iio i := by ext; simp
  rw [this, Fin.card_Iio]

/-- An element has rank `i` exactly when it is at place `i`. -/
theorem rank_eq_iff (key : Fin n → κ) (a i : Fin n) : rank key a = i.val ↔ a = place key i := by
  obtain ⟨j, rfl⟩ := place_surjective key a
  rw [rank_place]
  constructor
  · intro h; rw [Fin.ext h]
  · intro h; rw [place_injective key h]

/-- Elements behind all the first `m` do not change the ranks of the first `m`. -/
theorem rank_castLE {m : Nat} (h : m ≤ n) (key : Fin n → κ)
    (hlast : ∀ k x : Fin n, m ≤ k.val → x.val < m → ¬ key k < key x) (x : Fin m) :
    rank key (x.castLE h) = rank (fun j => key (j.castLE h)) x := by
  unfold rank
  have : (Finset.univ.filter fun k => pre key k (x.castLE h)) =
      (Finset.univ.filter fun k => pre (fun j : Fin m => key (j.castLE h)) k x).image (Fin.castLE h) := by
    ext k
    simp only [Finset.mem_filter, Finset.mem_univ, true_and, Finset.mem_image]
    constructor
    · intro hk
      have hkm : k.val < m := by
        by_contra hm
        rcases hk with hk | ⟨_, hk⟩
        · exact hlast k (x.castLE h) (by omega) x.isLt hk
        · have : k.val < x.val := hk
          have := x.isLt
          omega
      exact ⟨⟨k.val, hkm⟩, hk, rfl⟩
    · rintro ⟨j, hj, rfl⟩
      exact hj
  rw [this, Finset.card_image_of_injective _ (Fin.castLE_injective h)]

/-- Elements behind all the first `m` do not change the places of the first `m`. -/
theorem place_castLE {m : Nat} (h : m ≤ n) (key : Fin n → κ)
    (hlast : ∀ k x : Fin n, m ≤ k.val → x.val < m → ¬ key k < key x) (i : Fin m) :
    place key (i.castLE h) = (place (fun j => key (j.castLE h)) i).castLE h := by
  symm
  rw [← rank_eq_iff, rank_castLE h key hlast, rank_place]
  rfl

end Cert.Rank
-- ==== Proof.Value.SortK.lean ====
module
public import proofs.«01_k».proof.Proof.Value.Bits
public import proofs.«01_k».proof.Proof.Math.Rank
@[expose] public section
set_option maxRecDepth 16384
set_option maxHeartbeats 4000000

/-!
# The kernel's sort

Both sorted copies of the boxes hold at place `r` the box with `r` boxes before it by score.
-/

open Idealize.ShloMosaic Idealize.ShloMosaic.TcCoe
open Cert Cert.KernelIdeal Cert.KernelIdeal.Gen

namespace Cert.Value

/-- The sort key of the boxes: a greater score comes first. -/
def byScore {n : Nat} (s : Fin n → EReal) (k : Fin n) : ERealᵒᵈ := OrderDual.toDual (s k)

/-- The count the kernel makes is the rank. -/
theorem count_rank {n : Nat} (s : Fin n → EReal) (x : Fin n) :
    (∑ k, (if (decide (s x < s k) || (decide (s k = s x) && decide (k.val < x.val))) = true then 1 else 0 : EReal)) =
      ((Rank.rank (byScore s) x : ℝ) : EReal) := by
  rw [sum_count]
  congr 2
  unfold Rank.rank
  congr 1
  ext k
  simp only [Finset.mem_filter, Finset.mem_univ, true_and, Bool.or_eq_true, Bool.and_eq_true, decide_eq_true_eq]
  exact Iff.rfl

theorem sorted_rows (v11 : Vec Ideal S1x1024 .f32) (v13 : Vec Ideal S1024x1 .f32) (v : Vec Ideal S1024x16 .f32)
    (s : Fin 1024 → EReal) (h11 : ∀ k, v11 (ix2 0 k) = s k) (h13 : ∀ k, v13 (ix2 k 0) = s k)
    (r : Fin 1024) (c : Fin 16) :
    k0_pay1 (k0_pay6 v11 v13 v) (ix2 r c) = v (ix2 (Rank.place (byScore s) r) c) := by
  pointwise [k0_pay1, k0_pay6, k0_pay4, k0_pay3]
  have hs : ∀ a b : Fin 1024, IntOp.cmpi .slt (BitVec.ofNat 32 a.val) (BitVec.ofNat 32 b.val) = BitVec.ofBool (decide (a.val < b.val)) :=
    fun a b => slt_bit _ _ (by omega) (by omega)
  have hw : (FloatOps.sitofp (F := Ideal) .f32 (BitVec.ofNat 32 r.val) : EReal) = ((r.val : ℝ) : EReal) := word_num _ (by omega)
  simp only [h11, h13, hs, hw, and_bit, or_bit, bit_num, count_rank, num_eq, decide_eq_true_eq]
  exact sum_pick _ (fun x => v (ix2 x c)) _ fun x => Rank.rank_eq_iff (byScore s) x r

theorem sorted_cols (v11 : Vec Ideal S1x1024 .f32) (v13 : Vec Ideal S1024x1 .f32) (v : Vec Ideal S16x1024 .f32)
    (s : Fin 1024 → EReal) (h11 : ∀ k, v11 (ix2 0 k) = s k) (h13 : ∀ k, v13 (ix2 k 0) = s k)
    (r : Fin 16) (c : Fin 1024) :
    k0_pay2 (k0_pay5 v11 v13) v (ix2 r c) = v (ix2 r (Rank.place (byScore s) c)) := by
  pointwise [k0_pay2, k0_pay5, k0_pay4, k0_pay3]
  have hs : ∀ a b : Fin 1024, IntOp.cmpi .slt (BitVec.ofNat 32 a.val) (BitVec.ofNat 32 b.val) = BitVec.ofBool (decide (a.val < b.val)) :=
    fun a b => slt_bit _ _ (by omega) (by omega)
  have hw : (FloatOps.sitofp (F := Ideal) .f32 (BitVec.ofNat 32 c.val) : EReal) = ((c.val : ℝ) : EReal) := word_num _ (by omega)
  simp only [h11, h13, hs, hw, and_bit, or_bit, bit_num, count_rank, num_eq, decide_eq_true_eq]
  simp only [mul_comm (v _)]
  exact sum_pick _ (fun x => v (ix2 r x)) _ fun x => Rank.rank_eq_iff (byScore s) x c

end Cert.Value
-- ==== Proof.Value.SortedK.lean ====
module
public import proofs.«01_k».proof.Proof.Body.KernelIdealFrame
public import Idealize.ShloMosaic.Lib.WholeRead
public import proofs.«01_k».proof.Proof.Value.PrefixK
public import proofs.«01_k».proof.Proof.Value.SortK
@[expose] public section
set_option maxRecDepth 16384
set_option maxHeartbeats 400000

/-!
# The kernel's sorted tables

The rows and columns the sort leaves in the scratch buffers.
-/

open Idealize.ShloMosaic Idealize.ShloMosaic.TcCoe
open Cert Cert.KernelIdeal Cert.KernelIdeal.Gen Cert.KernelIdeal.Body

namespace Cert.Value

/-- An offset of zero with unit stride leaves a coordinate. -/
theorem at_origin (k : Nat) : 0 + 1 * k = k := by omega

variable (m : (ℓ : Loc nD τ sig) → Buf (Elt Ideal) ℓ) (c : Dev nD)

/-- The values before the launch. -/
noncomputable abbrev start : Valuation τ sig (Elt Ideal) := fun b => m (c, b)

/-- The launch reads the row of scores. -/
theorem iblk_0 (k : Fin 1024) : (iblk m c 0 tA : Vec Ideal S1x1024 .f32) (ix2 0 k) = (StableHlo.after hostOps0 (start m c) main_v28 : Vec Ideal S1x1024 .f32) (ix2 0 k) := by
  show (StableHlo.after hostOps0 (start m c) main_v28 : Vec Ideal S1x1024 .f32) _ = _
  refine congrArg _ ?_
  funext a; fin_cases a <;> exact Fin.ext (at_origin _)

/-- The launch reads the table. -/
theorem iblk_1 (r : Fin 1024) (k : Fin 16) : (iblk m c 1 tA : Vec Ideal S1024x16 .f32) (ix2 r k) = (StableHlo.after hostOps0 (start m c) main_v26 : Vec Ideal S1024x16 .f32) (ix2 r k) := by
  show (StableHlo.after hostOps0 (start m c) main_v26 : Vec Ideal S1024x16 .f32) _ = _
  refine congrArg _ ?_
  funext a; fin_cases a <;> exact Fin.ext (at_origin _)

/-- The launch reads the table turned. -/
theorem iblk_2 (k : Fin 16) (r : Fin 1024) : (iblk m c 2 tA : Vec Ideal S16x1024 .f32) (ix2 k r) = (StableHlo.after hostOps0 (start m c) main_v27 : Vec Ideal S16x1024 .f32) (ix2 k r) := by
  show (StableHlo.after hostOps0 (start m c) main_v27 : Vec Ideal S16x1024 .f32) _ = _
  refine congrArg _ ?_
  funext a; fin_cases a <;> exact Fin.ext (at_origin _)

variable (g : FVec Ideal S1000 .f32)

/-- Where the kernel's sort puts each row. -/
noncomputable def placeK : Fin 1024 → Fin 1024 := Rank.place (byScore (padded g))

/-- A row of the sorted table. -/
theorem sorted0_entry (hg : (start m c main_arg1 : Vec Ideal S1000 .f32) = g) (r : Fin 1024) (k : Fin 16) :
    sorted0 m c (ix2 r k) = (StableHlo.after hostOps0 (start m c) main_v26 : Vec Ideal S1024x16 .f32) (ix2 (placeK g r) k) := by
  unfold sorted0 runA.sl.r_1 placeK
  refine (sorted_rows _ _ _ (padded g) (fun k => ?_) (fun k => ?_) r k).trans ?_
  · rw [Memref.IsWhole.readAt_unread]
    refine Eq.trans ?_ ((iblk_0 m c k).trans (row_entry _ g hg k))
    refine congrArg _ ?_
    funext a; fin_cases a <;> exact Fin.ext (at_origin _)
  · rw [Memref.IsWhole.readAt_unread]
    refine Eq.trans ?_ ((iblk_1 m c k 7).trans (table_score _ g hg k))
    refine congrArg _ ?_
    funext a; fin_cases a
    · exact Fin.ext (at_origin _)
    · exact Fin.ext rfl
  · rw [Memref.IsWhole.readAt_unread]
    refine Eq.trans ?_ (iblk_1 m c _ k)
    refine congrArg _ ?_
    funext a; fin_cases a <;> exact Fin.ext (at_origin _)

/-- A column of the sorted table of columns. -/
theorem sorted1_entry (hg : (start m c main_arg1 : Vec Ideal S1000 .f32) = g) (k : Fin 16) (r : Fin 1024) :
    sorted1 m c (ix2 k r) = (StableHlo.after hostOps0 (start m c) main_v26 : Vec Ideal S1024x16 .f32) (ix2 (placeK g r) k) := by
  unfold sorted1 runA.sl.r placeK
  refine (sorted_cols _ _ _ (padded g) (fun k => ?_) (fun k => ?_) k r).trans ?_
  · rw [Memref.IsWhole.readAt_unread]
    refine Eq.trans ?_ ((iblk_0 m c k).trans (row_entry _ g hg k))
    refine congrArg _ ?_
    funext a; fin_cases a <;> exact Fin.ext (at_origin _)
  · rw [Memref.IsWhole.readAt_unread]
    refine Eq.trans ?_ ((iblk_1 m c k 7).trans (table_score _ g hg k))
    refine congrArg _ ?_
    funext a; fin_cases a
    · exact Fin.ext (at_origin _)
    · exact Fin.ext rfl
  · rw [Memref.IsWhole.readAt_unread]
    refine Eq.trans ?_ ((iblk_2 m c k _).trans (turned_entry _ k _))
    refine congrArg _ ?_
    funext a; fin_cases a <;> exact Fin.ext (at_origin _)

end Cert.Value
end
-- ==== Proof.Math.Overlap.lean ====
module
public import Mathlib.Data.Real.Basic
public import Mathlib.Algebra.BigOperators.Fin
public import Mathlib.Analysis.SpecialFunctions.Trigonometric.Basic
public import Mathlib.Tactic.Linarith
public import Mathlib.Tactic.Ring
public import Mathlib.Tactic.Positivity
public import Mathlib.Tactic.NormNum
public import Mathlib.Tactic.FieldSimp
@[expose] public section

/-!
# The overlap of two rotated boxes, over the reals

`share` is the part of an edge that runs inside an axis-aligned box, computed without dividing
until the end; `part` is the weighted sum of the four shares of one box against the other.
-/

namespace Cert.Overlap

/-- The sign the clipping uses: one on zero and above, minus one below. -/
noncomputable def sg (t : ℝ) : ℝ := if 0 ≤ t then 1 else -1

/-- The size of a step, kept from zero by `d`. -/
noncomputable def size (d t : ℝ) : ℝ := max (max t (-t)) d

/-- The share of the edge from `(px, py)` along `(dx, dy)` that runs inside the box of half
sides `w` and `h`, from products by the two sizes of the step. -/
noncomputable def share (d p w h px py dx dy : ℝ) : ℝ :=
  max (min (min ((w - sg dx * px) * size d dy) ((h - sg dy * py) * size d dx))
        (max (size d dx * size d dy) p) -
      max (max ((0 - w - sg dx * px) * size d dy) ((0 - h - sg dy * py) * size d dx)) 0) 0 /
    max (size d dx * size d dy) p

/-- The four shares of a box of half sides `w`, `h` centred at `(ux, uy)` and turned by
`(c, s)` in the frame of a box of half sides `W`, `H`, weighted by halves of `q0` to `q3`. -/
noncomputable def part (d p ux uy c s w h W H q0 q1 q2 q3 : ℝ) : ℝ :=
  1 / 2 * q0 * share d p W H (ux + w * c - h * s) (uy + w * s + h * c)
      (-2 * w * c - 0 * h * s) (-2 * w * s + 0 * h * c) +
    1 / 2 * q1 * share d p W H (ux + -1 * w * c - h * s) (uy + -1 * w * s + h * c)
      (0 * w * c - -2 * h * s) (0 * w * s + -2 * h * c) +
    1 / 2 * q2 * share d p W H (ux + -1 * w * c - -1 * h * s) (uy + -1 * w * s + -1 * h * c)
      (2 * w * c - 0 * h * s) (2 * w * s + 0 * h * c) +
    1 / 2 * q3 * share d p W H (ux + w * c - -1 * h * s) (uy + w * s + -1 * h * c)
      (0 * w * c - 2 * h * s) (0 * w * s + 2 * h * c)

/-- The cross product of a point with the step to the next one. -/
noncomputable def cross (x y x' y' : ℝ) : ℝ := x * (y' - y) - y * (x' - x)

/-- The first coordinate of a box's corner, from the signed half sides `a`, `b`. -/
noncomputable def cx (x c s a b : ℝ) : ℝ := x + a * c - b * s

/-- The second coordinate of a box's corner, from the signed half sides `a`, `b`. -/
noncomputable def cy (y c s a b : ℝ) : ℝ := y + a * s + b * c

/-- The cross product of the corner with signed half sides `a`, `b` and the corner with `a'`, `b'`. -/
noncomputable def edge (x y c s a b a' b' : ℝ) : ℝ :=
  cross (cx x c s a b) (cy y c s a b) (cx x c s a' b') (cy y c s a' b')

/-- Both parts together: the signed common area of two turned boxes. -/
noncomputable def common (d p x y w h c s x' y' w' h' c' s' : ℝ) : ℝ :=
  part d p ((x - x') * c' + (y - y') * s') ((0 - (x - x')) * s' + (y - y') * c')
      (c * c' + s * s') (s * c' - c * s') (w * (1 / 2)) (h * (1 / 2)) (w' * (1 / 2)) (h' * (1 / 2))
      (edge x y c s (w * (1 / 2)) (h * (1 / 2)) (-1 * (w * (1 / 2))) (h * (1 / 2)))
      (edge x y c s (-1 * (w * (1 / 2))) (h * (1 / 2)) (-1 * (w * (1 / 2))) (-1 * (h * (1 / 2))))
      (edge x y c s (-1 * (w * (1 / 2))) (-1 * (h * (1 / 2))) (w * (1 / 2)) (-1 * (h * (1 / 2))))
      (edge x y c s (w * (1 / 2)) (-1 * (h * (1 / 2))) (w * (1 / 2)) (h * (1 / 2))) +
    part d p (0 - ((x - x') * c + (y - y') * s)) (0 - ((0 - (x - x')) * s + (y - y') * c))
      (c * c' + s * s') (0 - (s * c' - c * s')) (w' * (1 / 2)) (h' * (1 / 2)) (w * (1 / 2)) (h * (1 / 2))
      (edge x' y' c' s' (w' * (1 / 2)) (h' * (1 / 2)) (-1 * (w' * (1 / 2))) (h' * (1 / 2)))
      (edge x' y' c' s' (-1 * (w' * (1 / 2))) (h' * (1 / 2)) (-1 * (w' * (1 / 2))) (-1 * (h' * (1 / 2))))
      (edge x' y' c' s' (-1 * (w' * (1 / 2))) (-1 * (h' * (1 / 2))) (w' * (1 / 2)) (-1 * (h' * (1 / 2))))
      (edge x' y' c' s' (w' * (1 / 2)) (-1 * (h' * (1 / 2))) (w' * (1 / 2)) (h' * (1 / 2)))

/-- A turned box: its centre, its sides and its angle. -/
structure Box where
  /-- first coordinate of the centre -/
  x : ℝ
  /-- second coordinate of the centre -/
  y : ℝ
  /-- first side -/
  w : ℝ
  /-- second side -/
  h : ℝ
  /-- angle -/
  t : ℝ

/-- The sign of the first half side at each corner. -/
def sx : Fin 4 → ℝ := ![1, -1, -1, 1]

/-- The sign of the second half side at each corner. -/
def sy : Fin 4 → ℝ := ![1, 1, -1, -1]

/-- First coordinate of a box's corner. -/
noncomputable def Box.px (B : Box) (k : Fin 4) : ℝ :=
  sx k * (B.w * (1 / 2)) * Real.cos B.t - sy k * (B.h * (1 / 2)) * Real.sin B.t + B.x

/-- Second coordinate of a box's corner. -/
noncomputable def Box.py (B : Box) (k : Fin 4) : ℝ :=
  sx k * (B.w * (1 / 2)) * Real.sin B.t + sy k * (B.h * (1 / 2)) * Real.cos B.t + B.y

/-- First coordinate of a point in a box's frame. -/
noncomputable def Box.u (B : Box) (x y : ℝ) : ℝ := (x - B.x) * Real.cos B.t + (y - B.y) * Real.sin B.t

/-- Second coordinate of a point in a box's frame. -/
noncomputable def Box.v (B : Box) (x y : ℝ) : ℝ := -(x - B.x) * Real.sin B.t + (y - B.y) * Real.cos B.t

/-- A step kept from zero by `d`, with its sign. -/
noncomputable def guard (d t : ℝ) : ℝ := if 0 ≤ t then max t d else min t (-d)

/-- The share of the segment from `(u, v)` to `(u', v')` inside the axis-aligned box of half
sides `w` and `h`: from where it has entered both slabs to where it leaves the first. -/
noncomputable def inside (d w h u v u' v' : ℝ) : ℝ :=
  max (min (min 1 (max ((-w - u) / guard d (u' - u)) ((w - u) / guard d (u' - u))))
        (max ((-h - v) / guard d (v' - v)) ((h - v) / guard d (v' - v))) -
      max (max 0 (min ((-w - u) / guard d (u' - u)) ((w - u) / guard d (u' - u))))
        (min ((-h - v) / guard d (v' - v)) ((h - v) / guard d (v' - v)))) 0

/-- The signed area that the part of `A`'s boundary inside `B` sweeps out, seen from the origin. -/
noncomputable def swept (d : ℝ) (A B : Box) : ℝ :=
  ∑ k : Fin 4, 1 / 2 * (A.px k * A.py (k + 1) - A.py k * A.px (k + 1)) *
    inside d (B.w * (1 / 2)) (B.h * (1 / 2)) (B.u (A.px k) (A.py k)) (B.v (A.px k) (A.py k))
      (B.u (A.px (k + 1)) (A.py (k + 1))) (B.v (A.px (k + 1)) (A.py (k + 1)))

end Cert.Overlap
-- ==== Proof.Value.Wide.lean ====
module
public import Idealize.ShloMosaic.Lib.IdealHost
public import proofs.«01_k».proof.Proof.Math.Overlap
public import proofs.«01_k».proof.Proof.Value.Constants
@[expose] public section

/-!
# The overlap of two boxes, over the extended reals

What the two programs compute from the six numbers of each box, whether or not they are real.
-/

open Idealize.ShloMosaic

namespace Cert.Wide

open Cert.Value (tiny least slack)

/-- A turned box by its centre, its sides and its direction. -/
structure Box where
  /-- first coordinate of the centre -/
  x : EReal
  /-- second coordinate of the centre -/
  y : EReal
  /-- first side -/
  w : EReal
  /-- second side -/
  h : EReal
  /-- cosine of the angle -/
  c : EReal
  /-- sine of the angle -/
  s : EReal

/-- Half of it. -/
noncomputable def half (v : EReal) : EReal := v * ((1 / 2 : ℝ) : EReal)

/-- The sign a step has for the clipping. -/
noncomputable def sg (t : EReal) : EReal := if 0 ≤ t then 1 else ((-1 : ℝ) : EReal)

/-- The size of a step, kept from zero. -/
noncomputable def size (t : EReal) : EReal := max (max t (-t)) (tiny : EReal)

/-- The share of an edge inside an axis-aligned box, by products. -/
noncomputable def share (w h px py dx dy : EReal) : EReal :=
  Ideal.div (max (min (min ((w - sg dx * px) * size dy) ((h - sg dy * py) * size dx))
        (max (size dx * size dy) (least : EReal)) -
      max (max ((0 - w - sg dx * px) * size dy) ((0 - h - sg dy * py) * size dx)) 0) 0)
    (max (size dx * size dy) (least : EReal))

/-- Minus a value, as a product. -/
noncomputable def flip (v : EReal) : EReal := ((-1 : ℝ) : EReal) * v

/-- The weighted share of one edge, from the signed half sides at its start and its step in half sides. -/
noncomputable def term (ux uy c s W H a b ex ey q : EReal) : EReal :=
  ((1 / 2 : ℝ) : EReal) * q * share W H (ux + a * c - b * s) (uy + a * s + b * c) (ex * c - ey * s) (ex * s + ey * c)

/-- The four weighted shares of one box against the other. -/
noncomputable def part (ux uy c s w h W H q0 q1 q2 q3 : EReal) : EReal :=
  term ux uy c s W H w h (((-2 : ℝ) : EReal) * w) (0 * h) q0 +
  term ux uy c s W H (flip w) h (0 * w) (((-2 : ℝ) : EReal) * h) q1 +
  term ux uy c s W H (flip w) (flip h) (((2 : ℝ) : EReal) * w) (0 * h) q2 +
  term ux uy c s W H w (flip h) (0 * w) (((2 : ℝ) : EReal) * h) q3

/-- The cross product of a corner with the step to the next one. -/
noncomputable def edge (A : Box) (a b a' b' : EReal) : EReal :=
  (A.x + a * A.c - b * A.s) * ((A.y + a' * A.s + b' * A.c) - (A.y + a * A.s + b * A.c)) -
    (A.y + a * A.s + b * A.c) * ((A.x + a' * A.c - b' * A.s) - (A.x + a * A.c - b * A.s))

/-- The first box's part. -/
noncomputable def mine (A B : Box) : EReal :=
  part ((A.x - B.x) * B.c + (A.y - B.y) * B.s) ((0 - (A.x - B.x)) * B.s + (A.y - B.y) * B.c)
    (A.c * B.c + A.s * B.s) (A.s * B.c - A.c * B.s) (half A.w) (half A.h) (half B.w) (half B.h)
    (edge A (half A.w) (half A.h) (flip (half A.w)) (half A.h))
    (edge A (flip (half A.w)) (half A.h) (flip (half A.w)) (flip (half A.h)))
    (edge A (flip (half A.w)) (flip (half A.h)) (half A.w) (flip (half A.h)))
    (edge A (half A.w) (flip (half A.h)) (half A.w) (half A.h))

/-- The second box's part. -/
noncomputable def yours (A B : Box) : EReal :=
  part (0 - ((A.x - B.x) * A.c + (A.y - B.y) * A.s)) (0 - ((0 - (A.x - B.x)) * A.s + (A.y - B.y) * A.c))
    (A.c * B.c + A.s * B.s) (0 - (A.s * B.c - A.c * B.s)) (half B.w) (half B.h) (half A.w) (half A.h)
    (edge B (half B.w) (half B.h) (flip (half B.w)) (half B.h))
    (edge B (flip (half B.w)) (half B.h) (flip (half B.w)) (flip (half B.h)))
    (edge B (flip (half B.w)) (flip (half B.h)) (half B.w) (flip (half B.h)))
    (edge B (half B.w) (flip (half B.h)) (half B.w) (half B.h))

/-- The size of a value. -/
noncomputable def abs (v : EReal) : EReal := max v (-v)

/-- The overlap ratio from the sum of the parts. -/
noncomputable def ratio (A B : Box) (p : EReal) : EReal :=
  Ideal.div (abs p) (A.w * A.h + B.w * B.h - abs p + (slack : EReal))

/-- The signs of the half sides at each corner. -/
noncomputable def sx (k : Fin 4) : EReal := ((Overlap.sx k : ℝ) : EReal)

/-- The signs of the half sides at each corner. -/
noncomputable def sy (k : Fin 4) : EReal := ((Overlap.sy k : ℝ) : EReal)

/-- First coordinate of a corner. -/
noncomputable def Box.px (A : Box) (k : Fin 4) : EReal := sx k * half A.w * A.c - sy k * half A.h * A.s + A.x

/-- Second coordinate of a corner. -/
noncomputable def Box.py (A : Box) (k : Fin 4) : EReal := sx k * half A.w * A.s + sy k * half A.h * A.c + A.y

/-- First coordinate of a point in a box's frame. -/
noncomputable def Box.u (B : Box) (x y : EReal) : EReal := (x - B.x) * B.c + (y - B.y) * B.s

/-- Second coordinate of a point in a box's frame. -/
noncomputable def Box.v (B : Box) (x y : EReal) : EReal := -(x - B.x) * B.s + (y - B.y) * B.c

/-- A step kept from zero, with its sign. -/
noncomputable def guard (t : EReal) : EReal := if 0 ≤ t then max t (tiny : EReal) else min t ((-tiny : ℝ) : EReal)

/-- Where a segment has entered a slab. -/
noncomputable def enter (w u u' : EReal) : EReal := min (Ideal.div (-w - u) (guard (u' - u))) (Ideal.div (w - u) (guard (u' - u)))

/-- Where a segment leaves a slab. -/
noncomputable def leave (w u u' : EReal) : EReal := max (Ideal.div (-w - u) (guard (u' - u))) (Ideal.div (w - u) (guard (u' - u)))

/-- The share of a segment inside an axis-aligned box, by quotients. -/
noncomputable def inside (w h u v u' v' : EReal) : EReal :=
  max (min (min 1 (leave w u u')) (leave h v v') - max (max 0 (enter w u u')) (enter h v v')) 0

/-- The signed area that the part of `A`'s boundary inside `B` sweeps out. -/
noncomputable def swept (A B : Box) : EReal :=
  ∑ k : Fin 4, ((1 / 2 : ℝ) : EReal) * (A.px k * A.py (k + 1) - A.py k * A.px (k + 1)) *
    inside (half B.w) (half B.h) (B.u (A.px k) (A.py k)) (B.v (A.px k) (A.py k))
      (B.u (A.px (k + 1)) (A.py (k + 1))) (B.v (A.px (k + 1)) (A.py (k + 1)))

end Cert.Wide
end
-- ==== Proof.Value.OverlapK.lean ====
module
public import proofs.«01_k».proof.Proof.Body.KernelIdealFrame
public import Idealize.ShloMosaic.Lib.Pointwise
public import proofs.«01_k».proof.Proof.Value.Constants
public import proofs.«01_k».proof.Proof.Value.Wide
@[expose] public section
set_option maxRecDepth 16384
set_option maxHeartbeats 4000000
namespace Cert.Value
open Idealize.ShloMosaic Idealize.ShloMosaic.TcCoe
open Cert Cert.Value Cert.KernelIdeal Cert.KernelIdeal.Body Cert.KernelIdeal.Gen
/-- The overlap entry of a row box and a column box. -/
theorem overlap_entry (c : Dev nD) (i : grid0.Coords) (arg5 : Memref sig .tc .vmem S1024x16 .f32) (harg5 : arg5.IsWhole) (arg6 : Memref sig .tc .vmem S16x1024 .f32) (harg6 : arg6.IsWhole)
    (h : cond2 i) (xs0 : Vec Ideal S1024x16 .f32) (xs1 : Vec Ideal S16x1024 .f32) (a : Fin 128) (b : Fin 1024)
    (rp : Vec Ideal S128x16 .f32) (cp : Vec Ideal S16x1024 .f32)
    (hrp : rp = View.readAt (Elt Ideal) arg5.view (Rect.unit (s := S1024x16) (k0_off1 i) ![128, 16] (k0_off1_inb i h)).toLoadRect (harg5.unread xs0))
    (hcp : cp = View.readAt (Elt Ideal) arg6.view (Rect.unit (s := S16x1024) ![0, 0] ![16, 1024] inb_S16x1024_S16x1024_0_0).toLoadRect (harg6.unread xs1))
    (A B : Wide.Box)
    (h0 : rp (ix2 a 0) = A.x) (g0 : cp (ix2 0 b) = B.x)
    (h1 : rp (ix2 a 1) = A.y) (g1 : cp (ix2 1 b) = B.y)
    (h2 : rp (ix2 a 2) = A.w) (g2 : cp (ix2 2 b) = B.w)
    (h3 : rp (ix2 a 3) = A.h) (g3 : cp (ix2 3 b) = B.h)
    (h4 : rp (ix2 a 4) = A.c) (g4 : cp (ix2 4 b) = B.c)
    (h5 : rp (ix2 a 5) = A.s) (g5 : cp (ix2 5 b) = B.s)
 :
    runB.sl.r_116 c i arg5 harg5 arg6 harg6 h xs0 xs1 (ix2 a b) = Wide.ratio A B (Wide.mine A B + Wide.yours A B) := by
  pointwise [runB.sl.cst_24,runB.sl.cst_86,runB.sl.r,runB.sl.r_1,runB.sl.r_2,runB.sl.r_3,runB.sl.r_4,runB.sl.r_5,runB.sl.r_6,runB.sl.r_7,runB.sl.r_8,runB.sl.r_9,runB.sl.r_10,runB.sl.r_11,runB.sl.r_12,runB.sl.r_13,runB.sl.r_14,runB.sl.r_15,runB.sl.r_16,runB.sl.r_17,runB.sl.r_18,runB.sl.r_19,runB.sl.r_20,runB.sl.r_21,runB.sl.r_22,runB.sl.r_23,runB.sl.r_24,runB.sl.r_25,runB.sl.r_26,runB.sl.r_27,runB.sl.r_28,runB.sl.r_29,runB.sl.r_30,runB.sl.r_31,runB.sl.r_32,runB.sl.r_33,runB.sl.r_34,runB.sl.r_35,runB.sl.r_36,runB.sl.r_37,runB.sl.r_38,runB.sl.r_39,runB.sl.r_40,runB.sl.r_41,runB.sl.r_42,runB.sl.r_43,runB.sl.r_44,runB.sl.r_45,runB.sl.r_46,runB.sl.r_47,runB.sl.r_48,runB.sl.r_49,runB.sl.r_50,runB.sl.r_51,runB.sl.r_52,runB.sl.r_53,runB.sl.r_54,runB.sl.r_55,runB.sl.r_56,runB.sl.r_57,runB.sl.r_58,runB.sl.r_59,runB.sl.r_60,runB.sl.r_61,runB.sl.r_62,runB.sl.r_63,runB.sl.r_64,runB.sl.r_65,runB.sl.r_66,runB.sl.r_67,runB.sl.r_68,runB.sl.r_69,runB.sl.r_70,runB.sl.r_71,runB.sl.r_72,runB.sl.r_73,runB.sl.r_74,runB.sl.r_75,runB.sl.r_76,runB.sl.r_77,runB.sl.r_78,runB.sl.r_79,runB.sl.r_80,runB.sl.r_81,runB.sl.r_82,runB.sl.r_83,runB.sl.r_84,runB.sl.r_85,runB.sl.r_86,runB.sl.r_87,runB.sl.r_88,runB.sl.r_89,runB.sl.r_90,runB.sl.r_91,runB.sl.r_92,runB.sl.r_93,runB.sl.r_94,runB.sl.r_95,runB.sl.r_96,runB.sl.r_97,runB.sl.r_98,runB.sl.r_99,runB.sl.r_100,runB.sl.r_101,runB.sl.r_102,runB.sl.r_103,runB.sl.r_104,runB.sl.r_105,runB.sl.r_106,runB.sl.r_107,runB.sl.r_108,runB.sl.r_109,runB.sl.r_110,runB.sl.r_111,runB.sl.r_112,runB.sl.r_113,runB.sl.r_114,runB.sl.r_115,runB.sl.r_116,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay135,k0_pay136,k0_pay137,k0_pay138,k0_pay139,k0_pay140,k0_pay141,k0_pay142,k0_pay143,k0_pay144,k0_pay145,k0_pay146,k0_pay147,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay170,k0_pay171,k0_pay172,k0_pay173,k0_pay174,k0_pay175,k0_pay176,k0_pay177,k0_pay178,k0_pay179,k0_pay180,k0_pay181,k0_pay182,k0_pay183,k0_pay184,k0_pay185,k0_pay186,k0_pay187,k0_pay188,k0_pay189]
  rw [← hrp, ← hcp]
  simp only [h0,h1,h2,h3,h4,h5,g0,g1,g2,g3,g4,g5, Ideal.absf_def, ofBits_half, ofBits_two, ofBits_neg_one, ofBits_neg_two, ofBits_tiny, ofBits_least, ofBits_slack]
  rfl
end Cert.Value
end
-- ==== Proof.Value.Pre.lean ====
module
public import proofs.«01_k».proof.Pre_boxes_in_range
public import Idealize.ShloMosaic.Lib.Pointwise
public import Idealize.ShloMosaic.Lib.ReduceAll
public import proofs.«01_k».proof.Proof.Value.Constants
@[expose] public section
set_option maxRecDepth 16384
set_option maxHeartbeats 400000

/-!
# The precondition, read

What the precondition says of each entry.
-/

open Idealize.ShloMosaic Idealize.ShloMosaic.TcCoe
open Cert Cert.Pre_boxes_in_range

namespace Cert.Value

instance preFacts : Cert.Pre_boxes_in_range.Facts where
  slices_S1000x5_S1000x2_0_2 := by decide
  h_S_ := by decide
  bcast_S_S1000x2 := by decide
  reducesTo_S1000x2_S_d0_1 := by decide
  bcast_S_S1000 := by decide
  reducesTo_S1000_S_d0 := by decide

/-- The least side that is not zero. -/
noncomputable def side : ℝ := 14167099 / 9444732965739290427392

theorem ofBits_side : Ideal.ofBits .f32 651701307#32 = ((side : ℝ) : EReal) := by
  simp [side, Ideal.ofBits, Ideal.ieee, -EReal.coe_mul]; norm_num

/-- A conjunction of bits that is one. -/
theorem and_one (a b : BitVec 1) (h : IntOp.andi a b = 1#1) : a = 1#1 ∧ b = 1#1 := by
  revert a b; decide

/-- A disjunction of bits that is one. -/
theorem or_one (a b : BitVec 1) (h : IntOp.ori a b = 1#1) : a = 1#1 ∨ b = 1#1 := by
  revert a b; decide

/-- A decided bit that is one. -/
theorem bool_one (p : Prop) [Decidable p] (h : BitVec.ofBool (decide p) = 1#1) : p := by
  by_contra q
  rw [decide_eq_false q] at h
  exact absurd h (by decide)

instance : Subsingleton S_.Idx := ⟨fun a b => funext fun i => i.elim0⟩

/-- A side is zero or at least `side`, and a score is at least the padding rows'. -/
theorem pre_read (x : FVec Ideal S1000x5 .f32) (g : FVec Ideal S1000 .f32)
    (h : Cert.Pre_boxes_in_range.fn (F := Ideal) x g = fun _ => 1#1) :
    (∀ a : Fin 1000, ∀ k : Fin 2, x (ix2 a ⟨k.val + 2, by omega⟩) = 0 ∨ Ideal.ofBits .f32 651701307#32 ≤ x (ix2 a ⟨k.val + 2, by omega⟩)) ∧
    (∀ a, Ideal.ofBits .f32 4048155338#32 ≤ g (ix1 a)) := by
  have h := congrFun h (fun i => i.elim0)
  unfold Cert.Pre_boxes_in_range.fn at h
  dsimp only at h
  obtain ⟨h2, h3⟩ := and_one _ _ h
  have h2 := Host.reduce_andi_all _ _ _ _ _ h2
  have h3 := Host.reduce_andi_all _ _ _ _ _ h3
  refine ⟨fun a k => ?_, fun a => ?_⟩
  · have e : IntOp.ori (BitVec.ofBool (decide (x (ix2 a ⟨k.val + 2, by omega⟩) = Ideal.ofBits .f32 0#32)))
      (BitVec.ofBool (decide (Ideal.ofBits .f32 651701307#32 ≤ x (ix2 a ⟨k.val + 2, by omega⟩)))) = 1#1 := by
      refine Eq.trans ?_ (h2 (ix2 a k))
      pointwise
      rw [show (⟨k.val + 2, by omega⟩ : Fin 5) = ⟨2 + k.val, by omega⟩ from Fin.ext (Nat.add_comm _ _)]
    rcases or_one _ _ e with e | e
    · exact Or.inl ((bool_one _ e).trans Ideal.ofBits_zero_f32)
    · exact Or.inr (bool_one _ e)
  · have e : BitVec.ofBool (decide (Ideal.ofBits .f32 4048155338#32 ≤ g (ix1 a))) = 1#1 := h3 (ix1 a)
    exact bool_one _ e

end Cert.Value
end
-- ==== Proof.Math.Keep.lean ====
module
public import proofs.«01_k».proof.Proof.Math.Rank
public import Mathlib.Algebra.Order.BigOperators.Group.Finset
@[expose] public section

/-!
# Suppression and compaction

The boxes are taken in order; a box not suppressed when it is taken suppresses the later ones it
overlaps. The kept boxes then come first, in their order.
-/

namespace Cert.Keep

variable {n : Nat}

/-- Whether box `c` is suppressed once the first `k` boxes were taken. -/
def supp (o : Fin n → Fin n → Bool) : Nat → Fin n → Bool
  | 0, _ => false
  | k + 1, c => if h : k < n then supp o k c || (o ⟨k, h⟩ c && decide (k < c.val) && !supp o k ⟨k, h⟩) else supp o k c

theorem supp_zero (o : Fin n → Fin n → Bool) (c : Fin n) : supp o 0 c = false := rfl

theorem supp_succ (o : Fin n → Fin n → Bool) (k : Fin n) (c : Fin n) :
    supp o (k.val + 1) c = (supp o k.val c || (o k c && decide (k.val < c.val) && !supp o k.val k)) := by
  rw [supp, dif_pos k.isLt]

/-- The sort key: the kept before the suppressed. -/
def key (s : Fin n → Bool) (c : Fin n) : Nat := (s c).toNat

/-- The number of kept boxes before a box. -/
def pos (s : Fin n → Bool) (c : Fin n) : Nat := (Finset.univ.filter fun x => s x = false ∧ x < c).card

/-- The number of kept boxes. -/
def total (s : Fin n → Bool) : Nat := (Finset.univ.filter fun x => s x = false).card

/-- A kept box's rank is the number of kept boxes before it. -/
theorem rank_kept (s : Fin n → Bool) (c : Fin n) (hc : s c = false) : Rank.rank (key s) c = pos s c := by
  unfold Rank.rank pos
  congr 1
  ext x
  simp only [Finset.mem_filter, Finset.mem_univ, true_and, Rank.pre, key, hc, Bool.toNat_false]
  cases hx : s x <;> simp

/-- There are more kept boxes than kept boxes before a kept one. -/
theorem pos_lt_total (s : Fin n → Bool) (c : Fin n) (hc : s c = false) : pos s c < total s := by
  refine Finset.card_lt_card ⟨fun x hx => ?_, fun h => ?_⟩
  · simp only [Finset.mem_filter, Finset.mem_univ, true_and] at *; exact hx.1
  · have : c ∈ Finset.univ.filter fun x => s x = false ∧ x < c := h (by simpa using hc)
    simp at this

/-- All kept boxes are before a suppressed one. -/
theorem total_le_rank (s : Fin n → Bool) (c : Fin n) (hc : s c = true) : total s ≤ Rank.rank (key s) c := by
  refine Finset.card_le_card fun x hx => ?_
  simp only [Finset.mem_filter, Finset.mem_univ, true_and] at *
  left
  simp [key, hc, hx]

/-- The box at place `i` is kept exactly when fewer than the kept are before it. -/
theorem place_kept (s : Fin n → Bool) (i : Fin n) : s (Rank.place (key s) i) = false ↔ i.val < total s := by
  have hr := Rank.rank_place (key s) i
  cases h : s (Rank.place (key s) i)
  · rw [rank_kept s _ h] at hr
    have := pos_lt_total s _ h
    simp; omega
  · have := total_le_rank s _ h
    simp; omega

/-- A kept box with `i` kept boxes before it is the one at place `i`. -/
theorem pos_eq_iff (s : Fin n → Bool) (i c : Fin n) (hi : i.val < total s) :
    (pos s c = i.val ∧ s c = false) ↔ c = Rank.place (key s) i := by
  constructor
  · rintro ⟨h, hc⟩
    rw [← Rank.rank_eq_iff, rank_kept s c hc, h]
  · intro h
    have hc : s c = false := by rw [h, place_kept]; exact hi
    refine ⟨?_, hc⟩
    rw [← rank_kept s c hc, h, Rank.rank_place]

end Cert.Keep
-- ==== Proof.Value.KeepK.lean ====
module
public import proofs.«01_k».proof.Proof.Value.Bits
public import proofs.«01_k».proof.Proof.Math.Keep
@[expose] public section
set_option maxRecDepth 16384
set_option maxHeartbeats 4000000

/-!
# The kernel's suppression and compaction
-/

open Idealize.ShloMosaic Idealize.ShloMosaic.TcCoe
open Cert Cert.KernelIdeal Cert.KernelIdeal.Gen

namespace Cert.Value

/-- The threshold on overlaps. -/
noncomputable def thr : EReal := Ideal.ofBits .f32 1060320051#32

/-- A box's place among the padded boxes. -/
abbrev up (c : Fin 1000) : Fin 1024 := c.castLE (by decide)

theorem iv_small (k : Nat) : Scf.iv 0#32 1#32 k = BitVec.ofNat 32 k := by
  simp [Scf.iv]

/-- One trip of the suppression at a column below 1000. -/
theorem trip_entry (k : Fin k0_t1_loop.trips) (r : Fin 1000) (hk : k.val = r.val) (arg9 : FVec Ideal S1x1024 .f32)
    (v55 : Vec Ideal S1x1024 .f32) (sup o : Fin 1000 → Bool)
    (h9 : ∀ c, arg9 (ix2 0 (up c)) = if sup c then (1 : EReal) else 0)
    (h55 : ∀ c, v55 (ix2 0 (up c)) > thr ↔ o c = true) (c : Fin 1000) :
    k0_pay191 k arg9 v55 (ix2 0 (up c)) =
      if (sup c || (o c && decide (r.val < c.val) && !sup r)) then (1 : EReal) else 0 := by
  pointwise [k0_pay191]
  have hs : IntOp.cmpi .sgt (BitVec.ofNat 32 (up c).val) (BitVec.ofNat 32 r.val) = BitVec.ofBool (decide (r.val < c.val)) :=
    sgt_bit _ _ (by omega) (by omega)
  have he : ∀ x : Fin 1024, IntOp.cmpi .eq (BitVec.ofNat 32 x.val) (BitVec.ofNat 32 r.val) = BitVec.ofBool (decide (x.val = r.val)) :=
    fun x => eq_bit _ _ (by omega) (by omega)
  simp only [iv_small, hk, hs, he]
  have hsum : (∑ _y : Fin 1, ∑ x : Fin 1024, Scalar.select (BitVec.ofBool (decide (x.val = r.val))) (arg9 (ix2 0 x)) (0 : EReal)) =
      if sup r then (1 : EReal) else 0 := by
    rw [← h9, Fin.sum_univ_one]
    simp only [select_bit, decide_eq_true_eq]
    rw [Finset.sum_eq_single (up r)]
    · exact if_pos rfl
    · intro b _ hb; exact if_neg fun e => hb (Fin.ext e)
    · intro h; exact absurd (Finset.mem_univ _) h
  have hz : decide ((if sup r then (1 : EReal) else 0) = 0) = !sup r := by
    cases sup r <;> simp
  have ho : decide (Ideal.ofBits FTy.f32 1060320051#32 < v55 (ix2 0 (up c))) = o c := by
    rw [Bool.eq_iff_iff, decide_eq_true_eq]; exact h55 c
  rw [ho, and_bit]
  refine (congrArg (fun t => Scalar.select (IntOp.andi _ (BitVec.ofBool (decide (t = (0 : EReal))))) (1 : EReal) (arg9 (ix2 0 (up c)))) hsum).trans ?_
  rw [hz, and_bit, select_bit, h9]
  cases sup c <;> cases (o c && decide (r.val < c.val) && !sup r) <;> rfl

/-- The kept boxes among the padded ones. -/
def kept (s : Fin 1000 → Bool) (x : Fin 1024) : Bool := if h : x.val < 1000 then !s ⟨x.val, h⟩ else false

theorem kept_num (v : Fin 1024 → EReal) (s : Fin 1000 → Bool) (h : ∀ c, v (up c) = if s c then (1 : EReal) else 0) (x : Fin 1024) :
    (1 - v x) * (if decide (x.val < 1000) = true then (1 : EReal) else 0) = if kept s x then 1 else 0 := by
  unfold kept
  by_cases hx : x.val < 1000
  · have e : v x = if s ⟨x.val, hx⟩ then (1 : EReal) else 0 := h ⟨x.val, hx⟩
    rw [e, dif_pos hx, decide_eq_true hx]
    have z : (1 : EReal) - 1 = 0 := by
      have : ((1 : ℝ) : EReal) - ((1 : ℝ) : EReal) = ((0 : ℝ) : EReal) := by rw [← EReal.coe_sub]; norm_num
      simpa using this
    cases s ⟨x.val, hx⟩ <;> simp [z]
  · rw [dif_neg hx, decide_eq_false hx]; simp

theorem kept_up (s : Fin 1000 → Bool) (c : Fin 1000) : kept s (up c) = !s c := by
  unfold kept; exact dif_pos c.isLt

/-- A kept box among the padded ones is one of the boxes. -/
theorem kept_iff (s : Fin 1000 → Bool) (x : Fin 1024) : kept s x = true ↔ ∃ c, s c = false ∧ up c = x := by
  constructor
  · intro h
    unfold kept at h
    split at h
    · next hx => exact ⟨⟨x.val, hx⟩, by simpa using h, rfl⟩
    · exact absurd h (by decide)
  · rintro ⟨c, hc, rfl⟩
    rw [kept_up, hc]; rfl

theorem up_injective : Function.Injective up := Fin.castLE_injective _

/-- The number of kept boxes among the padded ones. -/
theorem kept_total (s : Fin 1000 → Bool) : (Finset.univ.filter fun x => kept s x = true).card = Keep.total s := by
  unfold Keep.total
  rw [← Finset.card_image_of_injective _ up_injective]
  congr 1
  ext x
  simp only [Finset.mem_filter, Finset.mem_univ, true_and, Finset.mem_image, kept_iff]

/-- The number of kept boxes before a box among the padded ones. -/
theorem kept_pos (s : Fin 1000 → Bool) (c : Fin 1000) :
    (Finset.univ.filter fun x => kept s x = true ∧ x.val < (up c).val).card = Keep.pos s c := by
  unfold Keep.pos
  rw [← Finset.card_image_of_injective _ up_injective]
  congr 1
  ext x
  simp only [Finset.mem_filter, Finset.mem_univ, true_and, Finset.mem_image, kept_iff]
  constructor
  · rintro ⟨⟨d, hd, rfl⟩, hlt⟩; exact ⟨d, ⟨hd, hlt⟩, rfl⟩
  · rintro ⟨d, ⟨hd, hlt⟩, rfl⟩; exact ⟨⟨d, hd, rfl⟩, hlt⟩

/-- A small count rounds to its word. -/
theorem round_small (k : Nat) (hk : k < 2 ^ 31) : (FloatOps.fptosi (F := Ideal) (φ := .f32) 32 (((k : ℝ) : EReal) : Ideal .f32)) = BitVec.ofNat 32 k := by
  show BitVec.ofInt 32 (Ideal.toIntClamped _ _ _) = _
  rw [Ideal.toIntClamped_coe, if_pos (Nat.cast_nonneg k)]
  simp only [Int.floor_natCast]
  rw [min_eq_right (by norm_num; omega), max_eq_right (by norm_num)]
  simp

theorem round_neg_one : (FloatOps.fptosi (F := Ideal) (φ := .f32) 32 (((-1 : ℝ) : EReal) : Ideal .f32)) = 4294967295#32 := by
  show BitVec.ofInt 32 (Ideal.toIntClamped _ _ _) = _
  rw [Ideal.toIntClamped_coe, if_neg (by norm_num)]
  norm_num
  decide

/-- One result of the kernel: the kept boxes first, in their order, then minus ones. -/
theorem keep_entry (v15 : FVec Ideal S1x1024 .f32) (v40 : Vec Ideal S1024x1 .f32) (s : Fin 1000 → Bool) (g : Fin 1024 → Nat)
    (hg : ∀ c, g c < 1024) (h15 : ∀ c, v15 (ix2 0 (up c)) = if s c then (1 : EReal) else 0)
    (h40 : ∀ c, v40 (ix2 c 0) = ((g c : ℝ) : EReal)) (i : Fin 1000) :
    k0_pay192 v15 v40 (ix2 (up i) 0) =
      if s (Rank.place (Keep.key s) i) then 4294967295#32 else BitVec.ofNat 32 (g (up (Rank.place (Keep.key s) i))) := by
  pointwise [k0_pay192]
  have hlt : ∀ a b : Fin 1024, IntOp.cmpi .slt (BitVec.ofNat 32 a.val) (BitVec.ofNat 32 b.val) = BitVec.ofBool (decide (a.val < b.val)) :=
    fun a b => slt_bit _ _ (by omega) (by omega)
  have hw : ∀ a : Fin 1024, (FloatOps.sitofp (F := Ideal) .f32 (BitVec.ofNat 32 a.val) : EReal) = ((a.val : ℝ) : EReal) :=
    fun a => word_num _ (by omega)
  simp only [hlt, hw, ofBits_thousand, ofBits_neg_one, num_lt, bit_num, and_bit]
  simp only [kept_num (fun x => v15 (ix2 0 x)) s h15]
  have hm : ∀ a b : Prop, ∀ [Decidable a] [Decidable b], (if a then (1 : EReal) else 0) * (if b then (1 : EReal) else 0) = if a ∧ b then 1 else 0 := by
    intro a b _ _; by_cases a <;> by_cases b <;> simp [*]
  have hp : ∀ a : Prop, ∀ [Decidable a], ((0 : EReal) < if a then (1 : EReal) else 0) ↔ a := by
    intro a _; by_cases h : a <;> simp [h]
  have ht : (∑ _y : Fin 1, (((Finset.univ.filter fun x => kept s x = true).card : ℝ) : EReal)) = ((Keep.total s : ℝ) : EReal) := by
    rw [Fin.sum_univ_one, kept_total]
  simp only [hm, hp, sum_count, num_eq, decide_eq_true_eq, Bool.and_eq_true]
  refine (congrArg (fun t => FloatOps.fptosi (F := Ideal) (φ := .f32) 32 (if (((up i).val : ℝ) : EReal) < t then
    ∑ x, (if (Finset.univ.filter fun y : Fin 1024 => kept s y = true ∧ y.val < x.val).card = (up i).val ∧ kept s x = true
      then (1 : EReal) else 0) * v40 (ix2 x 0) else ((-1 : ℝ) : EReal))) ht).trans ?_
  beta_reduce
  show FloatOps.fptosi (F := Ideal) (φ := .f32) 32 (if ((i.val : ℝ) : EReal) < _ then _ else _) = _
  by_cases hi : i.val < Keep.total s
  · rw [if_pos ((num_lt _ _).mpr hi), if_neg (by rw [Bool.not_eq_true, Keep.place_kept]; exact hi)]
    rw [sum_pick _ (fun x => v40 (ix2 x 0)) (up (Rank.place (Keep.key s) i))]
    · rw [h40]; exact round_small _ (by have := hg (up (Rank.place (Keep.key s) i)); omega)
    · intro x
      constructor
      · rintro ⟨hc, hx⟩
        obtain ⟨c, hc', rfl⟩ := (kept_iff s x).mp hx
        rw [kept_pos] at hc
        rw [(Keep.pos_eq_iff s i c hi).mp ⟨hc, hc'⟩]
      · rintro rfl
        obtain ⟨h1, h2⟩ := (Keep.pos_eq_iff s i _ hi).mpr rfl
        exact ⟨by rw [kept_pos]; exact h1, (kept_iff s _).mpr ⟨_, h2, rfl⟩⟩
  · rw [if_neg (fun h => hi ((num_lt _ _).mp h)), if_pos]
    · exact round_neg_one
    · cases h : s (Rank.place (Keep.key s) i)
      · exact absurd ((Keep.place_kept s i).mp h) hi
      · rfl

end Cert.Value
end
-- ==== Proof.Value.Verdict.lean ====
module
public import Idealize.ShloMosaic.Lib.IdealHost
public import proofs.«01_k».proof.Proof.Value.Wide
public import proofs.«01_k».proof.Proof.Math.Rank
public import proofs.«01_k».proof.Proof.Math.Keep
public import proofs.«01_k».proof.Proof.Value.Constants
public import proofs.«01_k».proof.Proof.Value.SortK
public import proofs.«01_k».proof.Proof.Value.KeepK
@[expose] public section

/-!
# What both programs compute

The overlap ratio of two boxes, the suppression over the boxes sorted by score, and the result.
-/

open Idealize.ShloMosaic

namespace Cert.Value

/-- Whether two boxes, by their places in the order of the scores, overlap by more than the threshold. -/
noncomputable def over (B : Fin 1000 → Wide.Box) (g : Fin 1000 → EReal) (a b : Fin 1000) : Bool :=
  decide (thr < Wide.ratio (B (Rank.place (byScore g) a)) (B (Rank.place (byScore g) b))
    (Wide.swept (B (Rank.place (byScore g) a)) (B (Rank.place (byScore g) b)) + Wide.swept (B (Rank.place (byScore g) b)) (B (Rank.place (byScore g) a))))

/-- Which boxes, by their places in the order of the scores, are suppressed. -/
noncomputable def gone (B : Fin 1000 → Wide.Box) (g : Fin 1000 → EReal) : Fin 1000 → Bool := Keep.supp (over B g) 1000

/-- The numbers of the boxes kept, best score first, then minus one; `s` says which places are suppressed. -/
noncomputable def listed (s : Fin 1000 → Bool) (g : Fin 1000 → EReal) (i : Fin 1000) : BitVec 32 :=
  if s (Rank.place (Keep.key s) i) then 4294967295#32
  else BitVec.ofNat 32 (Rank.place (byScore g) (Rank.place (Keep.key s) i)).val

/-- The result. -/
noncomputable def verdict (B : Fin 1000 → Wide.Box) (g : Fin 1000 → EReal) (i : Fin 1000) : BitVec 32 := listed (gone B g) g i

end Cert.Value
end
-- ==== Proof.Value.WideReal.lean ====
module
public import proofs.«01_k».proof.Proof.Value.Wide
@[expose] public section
set_option maxRecDepth 16384
set_option maxHeartbeats 4000000

/-!
# The overlap of two real boxes

On real boxes the overlap over the extended reals is the overlap over the reals.
-/

open Idealize.ShloMosaic

namespace Cert.Wide

open Cert.Value

/-- A real box. -/
noncomputable def ofReal (A : Overlap.Box) : Box :=
  ⟨A.x, A.y, A.w, A.h, ((Real.cos A.t : ℝ) : EReal), ((Real.sin A.t : ℝ) : EReal)⟩

variable (A B : Overlap.Box)

/-- The parts by products. -/
theorem parts_ofReal : mine (ofReal A) (ofReal B) + yours (ofReal A) (ofReal B) =
    ((Overlap.common tiny least A.x A.y A.w A.h (Real.cos A.t) (Real.sin A.t) B.x B.y B.w B.h (Real.cos B.t) (Real.sin B.t) : ℝ) : EReal) := by
  have hdiv : ∀ a x : ℝ, Ideal.div (a : EReal) ((max x least : ℝ) : EReal) = ((a / max x least : ℝ) : EReal) :=
    fun a x => div_pos_coe a _ (lt_max_of_lt_right least_pos)
  simp only [ofReal, mine, yours, part, term, edge, share, flip, half, sg, size,
    ← EReal.coe_zero, ← EReal.coe_one, ← EReal.coe_mul, ← EReal.coe_add, ← EReal.coe_sub, ← EReal.coe_neg,
    max_coe, min_coe, EReal.coe_le_coe_iff, ite_coe, hdiv]
  rfl

/-- A guarded step is not zero. -/
theorem guard_ne (t : ℝ) : (if 0 ≤ t then max t tiny else min t (-tiny)) ≠ 0 := by
  have := tiny_pos
  split
  · exact (lt_max_of_lt_right this).ne'
  · exact (min_lt_of_right_lt (by linarith)).ne

/-- The boundary integral by quotients. -/
theorem swept_ofReal : swept (ofReal A) (ofReal B) = ((Overlap.swept tiny A B : ℝ) : EReal) := by
  have hdiv : ∀ a t : ℝ, Ideal.div (a : EReal) ((if 0 ≤ t then max t tiny else min t (-tiny) : ℝ) : EReal) =
      ((a / (if 0 ≤ t then max t tiny else min t (-tiny)) : ℝ) : EReal) := fun a t => div_ne_coe a _ (guard_ne t)
  simp only [swept, inside, enter, leave, guard, Box.u, Box.v, Box.px, Box.py, sx, sy, ofReal, half,
    ← EReal.coe_zero, ← EReal.coe_one, ← EReal.coe_mul, ← EReal.coe_add, ← EReal.coe_sub, ← EReal.coe_neg,
    max_coe, min_coe, EReal.coe_le_coe_iff, ite_coe, hdiv, sum_four_coe]
  rfl

end Cert.Wide
end
-- ==== Proof.Value.WideNull.lean ====
module
public import proofs.«01_k».proof.Proof.Value.Wide
@[expose] public section
set_option maxHeartbeats 400000

/-!
# The overlap when a number of a box is infinite

Then every term of the boundary integrals is zero or infinite, in both forms, and the ratio is not above zero.
-/

open Idealize.ShloMosaic

namespace Cert.Wide

open Cert.Value

/-- Infinite. -/
def Inf (v : EReal) : Prop := v = ⊤ ∨ v = ⊥

/-- Zero or infinite. -/
def Null (v : EReal) : Prop := v = 0 ∨ Inf v

theorem inf_top : Inf ⊤ := Or.inl rfl
theorem inf_bot : Inf ⊥ := Or.inr rfl

/-- What is not infinite is real. -/
theorem real_of (v : EReal) (h : ¬ Inf v) : ∃ r : ℝ, v = (r : EReal) := by
  induction v using EReal.rec with
  | bot => exact absurd inf_bot h
  | coe r => exact ⟨r, rfl⟩
  | top => exact absurd inf_top h

theorem not_inf_coe (r : ℝ) : ¬ Inf (r : EReal) := fun h => h.elim (EReal.coe_ne_top r) (EReal.coe_ne_bot r)

theorem inf_neg {a : EReal} (h : Inf a) : Inf (-a) := by
  rcases h with rfl | rfl
  · exact Or.inr EReal.neg_top
  · exact Or.inl EReal.neg_bot

theorem inf_add {a : EReal} (h : Inf a) (b : EReal) : Inf (a + b) := by
  rcases h with rfl | rfl
  · induction b using EReal.rec with
    | bot => exact Or.inr (by simp)
    | coe r => exact Or.inl (EReal.top_add_coe r)
    | top => exact Or.inl (by simp)
  · exact Or.inr (by simp)

theorem inf_add' {b : EReal} (h : Inf b) (a : EReal) : Inf (a + b) := by
  rw [add_comm]; exact inf_add h a

theorem inf_sub {a : EReal} (h : Inf a) (b : EReal) : Inf (a - b) := by
  rw [sub_eq_add_neg]; exact inf_add h _

theorem inf_sub' {b : EReal} (h : Inf b) (a : EReal) : Inf (a - b) := by
  rw [sub_eq_add_neg]; exact inf_add' (inf_neg h) _

theorem inf_mul {a b : EReal} (h : Inf a) (hb : b ≠ 0) : Inf (a * b) := by
  rcases h with rfl | rfl <;> rcases lt_or_gt_of_ne hb with h | h
  · exact Or.inr (EReal.top_mul_of_neg h)
  · exact Or.inl (EReal.top_mul_of_pos h)
  · exact Or.inl (EReal.bot_mul_of_neg h)
  · exact Or.inr (EReal.bot_mul_of_pos h)

theorem inf_mul' {a b : EReal} (h : Inf b) (ha : a ≠ 0) : Inf (a * b) := by
  rw [mul_comm]; exact inf_mul h ha

/-- A product of an infinity that is not infinite has a factor zero. -/
theorem zero_of_mul {a b : EReal} (h : ¬ Inf (a * b)) (ha : Inf a) : b = 0 := by
  by_contra hb; exact h (inf_mul ha hb)

theorem zero_of_mul' {a b : EReal} (h : ¬ Inf (a * b)) (hb : Inf b) : a = 0 := by
  by_contra ha; exact h (inf_mul' hb ha)

theorem null_mul {a : EReal} (h : Null a) (b : EReal) : Null (a * b) := by
  rcases h with rfl | h
  · exact Or.inl (zero_mul b)
  · by_cases hb : b = 0
    · exact Or.inl (by rw [hb, mul_zero])
    · exact Or.inr (inf_mul h hb)

theorem null_mul' {b : EReal} (h : Null b) (a : EReal) : Null (a * b) := by
  rw [mul_comm]; exact null_mul h a

theorem null_add {a b : EReal} (ha : Null a) (hb : Null b) : Null (a + b) := by
  rcases ha with rfl | ha
  · rwa [zero_add]
  · exact Or.inr (inf_add ha b)

/-- A difference that is not infinite is of two reals. -/
theorem of_sub {p r : EReal} (h : ¬ Null (p - r)) : ¬ Inf p ∧ ¬ Inf r :=
  ⟨fun hp => h (Or.inr (inf_sub hp r)), fun hr => h (Or.inr (inf_sub' hr p))⟩

/-- A real less itself. -/
theorem sub_same {v : EReal} (h : ¬ Inf v) : v - v = 0 :=
  EReal.sub_self (fun e => h (Or.inl e)) (fun e => h (Or.inr e))

/-- Only itself is at distance zero from a real. -/
theorem eq_of_sub {v y : EReal} (h : ¬ Inf v) (e : v - y = 0) : y = v := by
  obtain ⟨r, rfl⟩ := real_of v h
  have hy : ¬ Inf y := fun hy => not_inf_coe 0 (by rw [EReal.coe_zero, ← e]; exact inf_sub' hy _)
  obtain ⟨q, rfl⟩ := real_of y hy
  rw [← EReal.coe_sub, EReal.coe_eq_zero] at e
  rw [sub_eq_zero.mp e]

/-- A real multiple that is not zero. -/
theorem inf_scale {r : ℝ} {v : EReal} (h : Inf ((r : EReal) * v)) : Inf v := by
  by_contra hv
  obtain ⟨q, rfl⟩ := real_of v hv
  exact not_inf_coe _ (by rwa [EReal.coe_mul])

/-! ## The share by products -/

theorem size_pos (t : EReal) : 0 < size t := lt_of_lt_of_le (EReal.coe_pos.mpr tiny_pos) (le_max_right _ _)

theorem sg_ne (t : EReal) : sg t ≠ 0 := by
  unfold sg; split
  · exact one_ne_zero
  · exact EReal.coe_ne_zero.mpr (by norm_num)

theorem share_of_le {w h px py dx dy : EReal} (e : min (min ((w - sg dx * px) * size dy) ((h - sg dy * py) * size dx))
    (max (size dx * size dy) (least : EReal)) ≤ max (max ((0 - w - sg dx * px) * size dy) ((0 - h - sg dy * py) * size dx)) 0) :
    share w h px py dx dy = 0 := by
  unfold share
  rw [max_eq_right (EReal.sub_nonpos.mpr e)]
  unfold Ideal.div
  rw [if_neg (ne_of_gt (lt_of_lt_of_le (EReal.coe_pos.mpr least_pos) (le_max_right _ _))), zero_mul]

theorem share_flat_w (h px py dx dy : EReal) : share 0 h px py dx dy = 0 := by
  refine share_of_le ((min_le_left _ _).trans ((min_le_left _ _).trans ?_))
  rw [show (0 : EReal) - 0 = 0 by simp]
  exact (le_max_left _ _).trans (le_max_left _ _)

theorem share_flat_h (w px py dx dy : EReal) : share w 0 px py dx dy = 0 := by
  refine share_of_le ((min_le_left _ _).trans ((min_le_right _ _).trans ?_))
  rw [show (0 : EReal) - 0 = 0 by simp]
  exact (le_max_right _ _).trans (le_max_left _ _)

theorem far_side {w q z : EReal} (hw : ¬ Inf w) (hq : Inf q) (hz : 0 < z) : (w - q) * z = ⊥ ∨ (0 - w - q) * z = ⊤ := by
  obtain ⟨r, rfl⟩ := real_of w hw
  rcases hq with rfl | rfl
  · left
    rw [sub_eq_add_neg, EReal.neg_top, EReal.add_bot, EReal.bot_mul_of_pos hz]
  · right
    rw [sub_eq_add_neg, EReal.neg_bot, ← EReal.coe_zero, ← EReal.coe_sub, EReal.coe_add_top, EReal.top_mul_of_pos hz]

theorem share_far_x {w h px py dx dy : EReal} (hw : ¬ Inf w) (hp : Inf px) : share w h px py dx dy = 0 := by
  refine share_of_le ?_
  rcases far_side hw (inf_mul' hp (sg_ne dx)) (size_pos dy) with e | e
  · rw [e]; exact ((min_le_left _ _).trans (min_le_left _ _)).trans bot_le
  · rw [e]; exact le_top.trans ((le_max_left _ _).trans (le_max_left _ _))

theorem share_far_y {w h px py dx dy : EReal} (hh : ¬ Inf h) (hp : Inf py) : share w h px py dx dy = 0 := by
  refine share_of_le ?_
  rcases far_side hh (inf_mul' hp (sg_ne dy)) (size_pos dx) with e | e
  · rw [e]; exact ((min_le_left _ _).trans (min_le_right _ _)).trans bot_le
  · rw [e]; exact le_top.trans ((le_max_right _ _).trans (le_max_left _ _))

/-! ## The share by quotients -/

theorem inside_flat_w (h u v u' v' : EReal) : inside 0 h u v u' v' = 0 := by
  have e : leave 0 u u' = enter 0 u u' := by unfold leave enter; rw [neg_zero, max_self, min_self]
  unfold inside
  refine max_eq_right (EReal.sub_nonpos.mpr ?_)
  rw [e]
  exact ((min_le_left _ _).trans (min_le_right _ _)).trans ((le_max_right _ _).trans (le_max_left _ _))

theorem inside_flat_h (w u v u' v' : EReal) : inside w 0 u v u' v' = 0 := by
  have e : leave 0 v v' = enter 0 v v' := by unfold leave enter; rw [neg_zero, max_self, min_self]
  unfold inside
  refine max_eq_right (EReal.sub_nonpos.mpr ?_)
  rw [e]
  exact (min_le_right _ _).trans (le_max_right _ _)

theorem div_inf (a : EReal) {t : EReal} (h : Inf t) : Ideal.div a t = 0 := by
  unfold Ideal.div
  rcases h with rfl | rfl
  · rw [if_neg EReal.top_ne_zero, EReal.inv_top, mul_zero]
  · rw [if_neg EReal.bot_ne_zero, EReal.inv_bot, mul_zero]

theorem guard_inf {t : EReal} (h : Inf t) : Inf (guard t) := by
  unfold guard
  rcases h with rfl | rfl
  · rw [if_pos le_top]; exact Or.inl (max_eq_left le_top)
  · rw [if_neg (by simp)]; exact Or.inr (min_eq_left bot_le)

theorem inside_far_u {w h u v u' v' : EReal} (e : Inf u ∨ Inf u') : inside w h u v u' v' = 0 := by
  have g : Inf (guard (u' - u)) := guard_inf (e.elim (fun e => inf_sub' e _) (fun e => inf_sub e _))
  have a : leave w u u' = 0 := by unfold leave; rw [div_inf _ g, div_inf _ g, max_self]
  have b : enter w u u' = 0 := by unfold enter; rw [div_inf _ g, div_inf _ g, min_self]
  unfold inside
  refine max_eq_right (EReal.sub_nonpos.mpr ?_)
  rw [a, b]
  exact ((min_le_left _ _).trans (min_le_right _ _)).trans ((le_max_right _ _).trans (le_max_left _ _))

theorem inside_far_v {w h u v u' v' : EReal} (e : Inf v ∨ Inf v') : inside w h u v u' v' = 0 := by
  have g : Inf (guard (v' - v)) := guard_inf (e.elim (fun e => inf_sub' e _) (fun e => inf_sub e _))
  have a : leave h v v' = 0 := by unfold leave; rw [div_inf _ g, div_inf _ g, max_self]
  have b : enter h v v' = 0 := by unfold enter; rw [div_inf _ g, div_inf _ g, min_self]
  unfold inside
  refine max_eq_right (EReal.sub_nonpos.mpr ?_)
  rw [a, b]
  exact (min_le_right _ _).trans (le_max_right _ _)

/-! ## The boxes -/

/-- A direction: two reals not both zero, or the cosine and the sine of an infinity. -/
def Turned (c s : EReal) : Prop := (¬ Inf c ∧ ¬ Inf s ∧ (c ≠ 0 ∨ s ≠ 0)) ∨ (c = ⊥ ∧ s = ⊥)

/-- All its numbers are real. -/
def Finite (A : Box) : Prop := ¬ Inf A.x ∧ ¬ Inf A.y ∧ ¬ Inf A.w ∧ ¬ Inf A.h ∧ ¬ Inf A.c ∧ ¬ Inf A.s

/-- It is flat, or its sides are real. -/
def Sided (A : Box) : Prop := A.w = 0 ∨ A.h = 0 ∨ (¬ Inf A.w ∧ ¬ Inf A.h)

theorem half_zero : half 0 = 0 := zero_mul _

theorem half_inf {v : EReal} (h : Inf v) : Inf (half v) := inf_mul h (EReal.coe_ne_zero.mpr (by norm_num))

theorem half_real {v : EReal} (h : ¬ Inf v) : ¬ Inf (half v) := fun e => h (inf_scale (by rwa [mul_comm]))

theorem flip_inf {v : EReal} (h : Inf v) : Inf (flip v) := inf_mul' h (EReal.coe_ne_zero.mpr (by norm_num))

theorem flip_zero {v : EReal} (h : flip v = 0) : v = 0 :=
  (mul_eq_zero.mp h).resolve_left (EReal.coe_ne_zero.mpr (by norm_num))

theorem zero_flip {v : EReal} (h : v = 0) : flip v = 0 := by rw [h]; exact mul_zero _

/-- A product with a direction that is real in both places has a real factor, zero where the direction is infinite. -/
theorem real_of_turned {a c s : EReal} (h : Turned c s) (hc : ¬ Inf (a * c)) (hs : ¬ Inf (a * s)) : ¬ Inf a ∧ (a = 0 ∨ (¬ Inf c ∧ ¬ Inf s)) := by
  rcases h with ⟨rc, rs, h⟩ | ⟨rfl, rfl⟩
  · refine ⟨fun ha => ?_, Or.inr ⟨rc, rs⟩⟩
    rcases h with h | h
    · exact hc (inf_mul ha h)
    · exact hs (inf_mul ha h)
  · have e := zero_of_mul' hc inf_bot
    exact ⟨by rw [e, ← EReal.coe_zero]; exact not_inf_coe 0, Or.inl e⟩

/-- An infinite offset is infinite in a real frame. -/
theorem frame_far {X Y c s : EReal} (hc : c ≠ 0 ∨ s ≠ 0) (h : Inf X ∨ Inf Y) : Inf (X * c + Y * s) ∨ Inf ((-X) * s + Y * c) := by
  rcases h with h | h <;> rcases hc with k | k
  · exact Or.inl (inf_add (inf_mul h k) _)
  · exact Or.inr (inf_add (inf_mul (inf_neg h) k) _)
  · exact Or.inr (inf_add' (inf_mul h k) _)
  · exact Or.inl (inf_add' (inf_mul h k) _)

/-! ## A term by products -/

/-- An edge whose weight is neither zero nor infinite belongs to a finite box, and has a length. -/
theorem edge_real (A : Box) (ht : Turned A.c A.s) {a b a' b' : EReal} (ha : a = 0 → a' = 0) (hb : b = 0 → b' = 0)
    (hq : ¬ Null (edge A a b a' b')) : ¬ Inf A.x ∧ ¬ Inf A.y ∧ ¬ Inf a ∧ ¬ Inf b ∧ ¬ Inf A.c ∧ ¬ Inf A.s ∧ (a ≠ 0 ∨ b ≠ 0) := by
  obtain ⟨hp, hr⟩ := of_sub hq
  have hX : ¬ Inf (A.x + a * A.c - b * A.s) := fun i => by
    have e := zero_of_mul hp i
    have e' := zero_of_mul' hr (inf_sub' i _)
    refine hq (Or.inl ?_)
    unfold edge
    rw [e, e', mul_zero, zero_mul]; simp
  have hY : ¬ Inf (A.y + a * A.s + b * A.c) := fun i => by
    have e := zero_of_mul' hp (inf_sub' i _)
    have e' := zero_of_mul hr i
    refine hq (Or.inl ?_)
    unfold edge
    rw [e', e, mul_zero, zero_mul]; simp
  have hx : ¬ Inf A.x := fun i => hX (inf_sub (inf_add i _) _)
  have hy : ¬ Inf A.y := fun i => hY (inf_add (inf_add i _) _)
  obtain ⟨ra, ta⟩ := real_of_turned ht (fun i => hX (inf_sub (inf_add' i _) _)) (fun i => hY (inf_add (inf_add' i _) _))
  obtain ⟨rb, tb⟩ := real_of_turned ht (fun i => hY (inf_add' i _)) (fun i => hX (inf_sub' i _))
  have hz : a ≠ 0 ∨ b ≠ 0 := by
    by_contra z
    push Not at z
    refine hq (Or.inl ?_)
    unfold edge
    rw [ha z.1, hb z.2, ← z.1]
    rw [show (a : EReal) = 0 from z.1] at hX hY ⊢
    rw [z.2] at hX hY ⊢
    rw [sub_same hX, sub_same hY]; simp
  have hc : ¬ Inf A.c ∧ ¬ Inf A.s := by
    rcases hz with z | z
    · exact ta.resolve_left z
    · exact tb.resolve_left z
  exact ⟨hx, hy, ra, rb, hc.1, hc.2, hz⟩

/-- An edge far from the other box, or a flat other box, makes the term zero. -/
theorem term_zero {ux uy c s W H a b ex ey q : EReal}
    (h : W = 0 ∨ H = 0 ∨ (¬ Inf W ∧ ¬ Inf H ∧ (Inf ux ∨ Inf uy ∨ (Inf c ∧ Inf s ∧ (a ≠ 0 ∨ b ≠ 0))))) :
    term ux uy c s W H a b ex ey q = 0 := by
  unfold term
  suffices e : share W H (ux + a * c - b * s) (uy + a * s + b * c) (ex * c - ey * s) (ex * s + ey * c) = 0 by rw [e, mul_zero]
  rcases h with rfl | rfl | ⟨hW, hH, h⟩
  · exact share_flat_w _ _ _ _ _
  · exact share_flat_h _ _ _ _ _
  · rcases h with h | h | ⟨hc, hs, h | h⟩
    · exact share_far_x hW (inf_sub (inf_add h _) _)
    · exact share_far_y hH (inf_add (inf_add h _) _)
    · exact share_far_x hW (inf_sub (inf_add' (inf_mul' hc h) _) _)
    · exact share_far_x hW (inf_sub' (inf_mul' hs h) _)

theorem term_null {ux uy c s W H a b ex ey q : EReal} (h : Null q) : Null (term ux uy c s W H a b ex ey q) :=
  null_mul (null_mul' h _) _

/-- What a box that is not finite does to the other's frame. -/
theorem frames_far (A B : Box) (hA : Finite A) (tA : A.c ≠ 0 ∨ A.s ≠ 0) (tB : Turned B.c B.s) (sB : Sided B) (hB : ¬ Finite B) :
    B.w = 0 ∨ B.h = 0 ∨ (¬ Inf B.w ∧ ¬ Inf B.h ∧ ((B.c = ⊥ ∧ B.s = ⊥) ∨ ((B.c ≠ 0 ∨ B.s ≠ 0) ∧ (Inf B.x ∨ Inf B.y)))) := by
  rcases sB with h | h | ⟨h, h'⟩
  · exact Or.inl h
  · exact Or.inr (Or.inl h)
  · refine Or.inr (Or.inr ⟨h, h', ?_⟩)
    rcases tB with ⟨c, s, t⟩ | t
    · refine Or.inr ⟨t, ?_⟩
      by_contra z
      push Not at z
      exact hB ⟨z.1, z.2, h, h', c, s⟩
    · exact Or.inl t

/-- A real direction is not zero. -/
theorem turned_ne {c s : EReal} (h : Turned c s) (hc : ¬ Inf c) : c ≠ 0 ∨ s ≠ 0 := by
  rcases h with ⟨_, _, h⟩ | ⟨rfl, _⟩
  · exact h
  · exact absurd inf_bot hc

theorem half_flat {v : EReal} (h : v = 0) : half v = 0 := by rw [h]; exact half_zero

/-- Two real numbers, not both zero, times an infinite direction. -/
theorem cross_inf {c s : EReal} (h : c ≠ 0 ∨ s ≠ 0) : Inf (c * ⊥ + s * ⊥) ∧ Inf (s * ⊥ - c * ⊥) := by
  rcases h with h | h
  · exact ⟨inf_add (inf_mul' inf_bot h) _, inf_sub' (inf_mul' inf_bot h) _⟩
  · exact ⟨inf_add' (inf_mul' inf_bot h) _, inf_sub (inf_mul' inf_bot h) _⟩

theorem cross_inf' {c s : EReal} (h : c ≠ 0 ∨ s ≠ 0) : Inf (⊥ * c + ⊥ * s) ∧ Inf (⊥ * c - ⊥ * s) := by
  rcases h with h | h
  · exact ⟨inf_add (inf_mul inf_bot h) _, inf_sub (inf_mul inf_bot h) _⟩
  · exact ⟨inf_add' (inf_mul inf_bot h) _, inf_sub' (inf_mul inf_bot h) _⟩

/-- A term of the first box's part. -/
theorem mine_term (A B : Box) (tA : Turned A.c A.s) (tB : Turned B.c B.s) (sB : Sided B) (h : ¬ (Finite A ∧ Finite B))
    {a b a' b' ex ey : EReal} (ha : a = 0 → a' = 0) (hb : b = 0 → b' = 0) (ia : Inf A.w → Inf a) (ib : Inf A.h → Inf b) :
    Null (term ((A.x - B.x) * B.c + (A.y - B.y) * B.s) ((0 - (A.x - B.x)) * B.s + (A.y - B.y) * B.c)
      (A.c * B.c + A.s * B.s) (A.s * B.c - A.c * B.s) (half B.w) (half B.h) a b ex ey (edge A a b a' b')) := by
  by_cases hq : Null (edge A a b a' b')
  · exact term_null hq
  obtain ⟨hx, hy, ra, rb, hc, hs, hz⟩ := edge_real A tA ha hb hq
  have fA : Finite A := ⟨hx, hy, fun i => ra (ia i), fun i => rb (ib i), hc, hs⟩
  have nA := turned_ne tA hc
  refine Or.inl (term_zero ?_)
  rcases frames_far A B fA nA tB sB (fun fB => h ⟨fA, fB⟩) with e | e | ⟨e, e', f⟩
  · exact Or.inl (half_flat e)
  · exact Or.inr (Or.inl (half_flat e))
  refine Or.inr (Or.inr ⟨half_real e, half_real e', ?_⟩)
  rcases f with ⟨bc, bs⟩ | ⟨n, f⟩
  · have k := cross_inf nA
    rw [bc, bs]
    exact Or.inr (Or.inr ⟨k.1, k.2, hz⟩)
  · have k : Inf (A.x - B.x) ∨ Inf (A.y - B.y) := f.imp (fun f => inf_sub' f _) (fun f => inf_sub' f _)
    rw [zero_sub]
    exact (frame_far n k).imp id Or.inl

/-- A term of the second box's part. -/
theorem yours_term (A B : Box) (tA : Turned A.c A.s) (tB : Turned B.c B.s) (sA : Sided A) (h : ¬ (Finite A ∧ Finite B))
    {a b a' b' ex ey : EReal} (ha : a = 0 → a' = 0) (hb : b = 0 → b' = 0) (ia : Inf B.w → Inf a) (ib : Inf B.h → Inf b) :
    Null (term (0 - ((A.x - B.x) * A.c + (A.y - B.y) * A.s)) (0 - ((0 - (A.x - B.x)) * A.s + (A.y - B.y) * A.c))
      (A.c * B.c + A.s * B.s) (0 - (A.s * B.c - A.c * B.s)) (half A.w) (half A.h) a b ex ey (edge B a b a' b')) := by
  by_cases hq : Null (edge B a b a' b')
  · exact term_null hq
  obtain ⟨hx, hy, ra, rb, hc, hs, hz⟩ := edge_real B tB ha hb hq
  have fB : Finite B := ⟨hx, hy, fun i => ra (ia i), fun i => rb (ib i), hc, hs⟩
  have nB := turned_ne tB hc
  refine Or.inl (term_zero ?_)
  rcases frames_far B A fB nB tA sA (fun fA => h ⟨fA, fB⟩) with e | e | ⟨e, e', f⟩
  · exact Or.inl (half_flat e)
  · exact Or.inr (Or.inl (half_flat e))
  refine Or.inr (Or.inr ⟨half_real e, half_real e', ?_⟩)
  rcases f with ⟨ac, az⟩ | ⟨n, f⟩
  · have k := cross_inf' nB
    rw [ac, az]
    exact Or.inr (Or.inr ⟨k.1, inf_sub' k.2 _, hz⟩)
  · have k : Inf (A.x - B.x) ∨ Inf (A.y - B.y) := f.imp (fun f => inf_sub f _) (fun f => inf_sub f _)
    rw [zero_sub (A.x - B.x)]
    exact (frame_far n k).imp (fun i => inf_sub' i _) (fun i => Or.inl (inf_sub' i _))

/-- The first box's part is zero or infinite. -/
theorem mine_null (A B : Box) (tA : Turned A.c A.s) (tB : Turned B.c B.s) (sB : Sided B) (h : ¬ (Finite A ∧ Finite B)) : Null (mine A B) := by
  unfold mine part
  exact null_add (null_add (null_add
    (mine_term A B tA tB sB h zero_flip id half_inf half_inf)
    (mine_term A B tA tB sB h id zero_flip (fun i => flip_inf (half_inf i)) half_inf))
    (mine_term A B tA tB sB h flip_zero id (fun i => flip_inf (half_inf i)) (fun i => flip_inf (half_inf i))))
    (mine_term A B tA tB sB h id flip_zero half_inf (fun i => flip_inf (half_inf i)))

/-- The second box's part is zero or infinite. -/
theorem yours_null (A B : Box) (tA : Turned A.c A.s) (tB : Turned B.c B.s) (sA : Sided A) (h : ¬ (Finite A ∧ Finite B)) : Null (yours A B) := by
  unfold yours part
  exact null_add (null_add (null_add
    (yours_term A B tA tB sA h zero_flip id half_inf half_inf)
    (yours_term A B tA tB sA h id zero_flip (fun i => flip_inf (half_inf i)) half_inf))
    (yours_term A B tA tB sA h flip_zero id (fun i => flip_inf (half_inf i)) (fun i => flip_inf (half_inf i))))
    (yours_term A B tA tB sA h id flip_zero half_inf (fun i => flip_inf (half_inf i)))

/-! ## A term by quotients -/

theorem sx_ne (k : Fin 4) : sx k ≠ 0 := by
  refine EReal.coe_ne_zero.mpr ?_
  fin_cases k <;> norm_num [Overlap.sx]

theorem sy_ne (k : Fin 4) : sy k ≠ 0 := by
  refine EReal.coe_ne_zero.mpr ?_
  fin_cases k <;> norm_num [Overlap.sy]

theorem scale_inf {r : EReal} (hr : r ≠ 0) {v : EReal} (h : Inf v) (c : EReal) : Inf (v * c) → Inf (r * v * c) := fun i => by
  rw [mul_assoc]; exact inf_mul' i hr

/-- When one corner's first coordinate is infinite, so is every corner's. -/
theorem px_real (A : Box) (k : Fin 4) (h : ¬ Inf (A.px k)) : ¬ Inf A.x ∧ ¬ Inf (half A.w * A.c) ∧ ¬ Inf (half A.h * A.s) := by
  refine ⟨fun i => h (inf_add' i _), fun i => h (inf_add (inf_sub ?_ _) _), fun i => h (inf_add (inf_sub' ?_ _) _)⟩
  · rw [mul_assoc]; exact inf_mul' i (sx_ne k)
  · rw [mul_assoc]; exact inf_mul' i (sy_ne k)

theorem py_real (A : Box) (k : Fin 4) (h : ¬ Inf (A.py k)) : ¬ Inf A.y ∧ ¬ Inf (half A.w * A.s) ∧ ¬ Inf (half A.h * A.c) := by
  refine ⟨fun i => h (inf_add' i _), fun i => h (inf_add (inf_add ?_ _) _), fun i => h (inf_add (inf_add' ?_ _) _)⟩
  · rw [mul_assoc]; exact inf_mul' i (sx_ne k)
  · rw [mul_assoc]; exact inf_mul' i (sy_ne k)

theorem real_add {a b : EReal} (ha : ¬ Inf a) (hb : ¬ Inf b) : ¬ Inf (a + b) := by
  obtain ⟨r, rfl⟩ := real_of a ha
  obtain ⟨q, rfl⟩ := real_of b hb
  rw [← EReal.coe_add]; exact not_inf_coe _

theorem real_sub {a b : EReal} (ha : ¬ Inf a) (hb : ¬ Inf b) : ¬ Inf (a - b) := by
  rw [sub_eq_add_neg]
  exact real_add ha (fun i => hb (by rw [← neg_neg b]; exact inf_neg i))

theorem real_px (A : Box) (k : Fin 4) (h : ¬ Inf A.x ∧ ¬ Inf (half A.w * A.c) ∧ ¬ Inf (half A.h * A.s)) : ¬ Inf (A.px k) := by
  refine real_add (real_sub (fun i => h.2.1 ?_) (fun i => h.2.2 ?_)) h.1
  · rw [mul_assoc] at i; exact inf_scale i
  · rw [mul_assoc] at i; exact inf_scale i

theorem real_py (A : Box) (k : Fin 4) (h : ¬ Inf A.y ∧ ¬ Inf (half A.w * A.s) ∧ ¬ Inf (half A.h * A.c)) : ¬ Inf (A.py k) := by
  refine real_add (real_add (fun i => h.2.1 ?_) (fun i => h.2.2 ?_)) h.1
  · rw [mul_assoc] at i; exact inf_scale i
  · rw [mul_assoc] at i; exact inf_scale i

theorem unhalf {v : EReal} (h : half v = 0) : v = 0 := (mul_eq_zero.mp h).resolve_right (EReal.coe_ne_zero.mpr (by norm_num))

/-- The corners of an edge whose weight is neither zero nor infinite: real, of a finite box, and not the same point. -/
theorem corners_real (A : Box) (tA : Turned A.c A.s) (k l : Fin 4) (hq : ¬ Null (A.px k * A.py l - A.py k * A.px l)) :
    Finite A ∧ ¬ Inf (A.px k) ∧ ¬ Inf (A.py k) ∧ ¬ (A.px l = A.px k ∧ A.py l = A.py k) := by
  obtain ⟨hp, hr⟩ := of_sub hq
  have hX : ¬ Inf (A.px k) := fun i => by
    have j : Inf (A.px l) := by
      by_contra j; exact real_px A k (px_real A l j) i
    refine hq (Or.inl ?_)
    rw [zero_of_mul hp i, zero_of_mul' hr j]; simp
  have hY : ¬ Inf (A.py k) := fun i => by
    have j : Inf (A.py l) := by
      by_contra j; exact real_py A k (py_real A l j) i
    refine hq (Or.inl ?_)
    rw [zero_of_mul' hp j, zero_of_mul hr i]; simp
  have hd : ¬ (A.px l = A.px k ∧ A.py l = A.py k) := fun ⟨e, f⟩ => by
    refine hq (Or.inl ?_)
    rw [e, f, mul_comm (A.py k)]
    rw [f] at hp
    exact sub_same hp
  obtain ⟨hx, xc, xs⟩ := px_real A k hX
  obtain ⟨hy, ys, yc⟩ := py_real A k hY
  obtain ⟨rw', tw⟩ := real_of_turned tA xc ys
  obtain ⟨rh, th⟩ := real_of_turned tA yc xs
  have hcs : ¬ Inf A.c ∧ ¬ Inf A.s := by
    by_contra z
    have zw := tw.resolve_right z
    have zh := th.resolve_right z
    refine hd ?_
    unfold Box.px Box.py
    rw [zw, zh]; simp
  exact ⟨⟨hx, hy, fun i => rw' (half_inf i), fun i => rh (half_inf i), hcs.1, hcs.2⟩, hX, hY, hd⟩

/-- An edge of a finite box against a box that is not finite. -/
theorem inside_zero (A B : Box) (fA : Finite A) (nA : A.c ≠ 0 ∨ A.s ≠ 0) (tB : Turned B.c B.s) (sB : Sided B) (fB : ¬ Finite B)
    {X Y X' Y' : EReal} (hX : ¬ Inf X) (hY : ¬ Inf Y) (hd : ¬ (X' = X ∧ Y' = Y)) :
    inside (half B.w) (half B.h) (B.u X Y) (B.v X Y) (B.u X' Y') (B.v X' Y') = 0 := by
  rcases frames_far A B fA nA tB sB fB with e | e | ⟨_, _, f⟩
  · rw [half_flat e]; exact inside_flat_w _ _ _ _ _
  · rw [half_flat e]; exact inside_flat_h _ _ _ _ _
  rcases f with ⟨bc, bs⟩ | ⟨n, f⟩
  · refine inside_far_u ?_
    have far (P Q : EReal) (h : P - B.x ≠ 0 ∨ Q - B.y ≠ 0) : Inf (B.u P Q) := by
      unfold Box.u
      rw [bc, bs]
      exact (cross_inf h).1
    by_cases h : X - B.x ≠ 0 ∨ Y - B.y ≠ 0
    · exact Or.inl (far X Y h)
    · push Not at h
      refine Or.inr (far X' Y' ?_)
      rw [eq_of_sub hX h.1, eq_of_sub hY h.2]
      by_contra z
      push Not at z
      have back (P Q : EReal) (hQ : ¬ Inf Q) (e : P - Q = 0) : P = Q := by
        have hP : ¬ Inf P := fun i => not_inf_coe 0 (by rw [EReal.coe_zero, ← e]; exact inf_sub i _)
        exact (eq_of_sub hP e).symm
      exact hd ⟨back _ _ hX z.1, back _ _ hY z.2⟩
  · have k : Inf (X - B.x) ∨ Inf (Y - B.y) := f.imp (fun f => inf_sub' f _) (fun f => inf_sub' f _)
    rcases frame_far n k with h | h
    · exact inside_far_u (Or.inl h)
    · exact inside_far_v (Or.inl h)

/-- The boundary integral is zero or infinite. -/
theorem swept_null (A B : Box) (tA : Turned A.c A.s) (tB : Turned B.c B.s) (sB : Sided B) (h : ¬ (Finite A ∧ Finite B)) : Null (swept A B) := by
  have t (k : Fin 4) : Null (((1 / 2 : ℝ) : EReal) * (A.px k * A.py (k + 1) - A.py k * A.px (k + 1)) *
      inside (half B.w) (half B.h) (B.u (A.px k) (A.py k)) (B.v (A.px k) (A.py k))
        (B.u (A.px (k + 1)) (A.py (k + 1))) (B.v (A.px (k + 1)) (A.py (k + 1)))) := by
    by_cases hq : Null (A.px k * A.py (k + 1) - A.py k * A.px (k + 1))
    · exact null_mul (null_mul' hq _) _
    obtain ⟨fA, hX, hY, hd⟩ := corners_real A tA k (k + 1) hq
    rw [inside_zero A B fA (turned_ne tA fA.2.2.2.2.1) tB sB (fun fB => h ⟨fA, fB⟩) hX hY hd, mul_zero]
    exact Or.inl rfl
  unfold swept
  rw [Fin.sum_univ_four]
  exact null_add (null_add (null_add (t 0) (t 1)) (t 2)) (t 3)

/-! ## The ratio -/

/-- When the sum of the parts is zero or infinite, the ratio is not above zero. -/
theorem ratio_null (A B : Box) {p : EReal} (hp : Null p) : ratio A B p ≤ 0 := by
  unfold ratio
  have e : abs p = 0 ∨ abs p = ⊤ := by
    unfold abs
    rcases hp with rfl | rfl | rfl
    · left; simp
    · right; simp
    · right; simp
  rcases e with e | e
  · rw [e]
    unfold Ideal.div
    split
    · simp
    · rw [zero_mul]
  · rw [e, sub_eq_add_neg, EReal.neg_top, EReal.add_bot, EReal.bot_add, div_inf _ inf_bot]

/-- When the areas are infinite, the ratio is zero. -/
theorem ratio_wide (A B : Box) (p : EReal) (h : A.w * A.h + B.w * B.h = ⊤) : ratio A B p ≤ 0 := by
  unfold ratio
  rw [h]
  by_cases i : Inf (abs p)
  · rw [div_inf _ (inf_add (inf_sub' i _) _)]
  · obtain ⟨r, e⟩ := real_of _ i
    rw [e, div_inf _ (inf_add (inf_sub inf_top _) _)]

/-- Sides not below zero whose area is not infinite. -/
theorem sided_of {A : Box} (hw : 0 ≤ A.w) (hh : 0 ≤ A.h) (h : A.w * A.h ≠ ⊤) : Sided A := by
  by_cases zw : A.w = 0
  · exact Or.inl zw
  by_cases zh : A.h = 0
  · exact Or.inr (Or.inl zh)
  have pw := lt_of_le_of_ne hw (Ne.symm zw)
  have ph := lt_of_le_of_ne hh (Ne.symm zh)
  refine Or.inr (Or.inr ⟨fun i => ?_, fun i => ?_⟩)
  · rcases i with i | i
    · rw [i, EReal.top_mul_of_pos ph] at h; exact h rfl
    · rw [i] at pw; exact absurd pw (by simp)
  · rcases i with i | i
    · rw [i, EReal.mul_top_of_pos pw] at h; exact h rfl
    · rw [i] at ph; exact absurd ph (by simp)

/-- With a number of a box infinite, neither ratio is above zero. -/
theorem ratios_null (A B : Box) (tA : Turned A.c A.s) (tB : Turned B.c B.s) (wA : 0 ≤ A.w) (hA : 0 ≤ A.h) (wB : 0 ≤ B.w) (hB : 0 ≤ B.h)
    (h : ¬ (Finite A ∧ Finite B)) : ratio A B (mine A B + yours A B) ≤ 0 ∧ ratio A B (swept A B + swept B A) ≤ 0 := by
  by_cases e : A.w * A.h + B.w * B.h = ⊤
  · exact ⟨ratio_wide A B _ e, ratio_wide A B _ e⟩
  have nn {a b : EReal} (ha : 0 ≤ a) (hb : 0 ≤ b) : a * b ≠ ⊥ := fun i => by
    have := mul_nonneg ha hb
    rw [i] at this; simp at this
  have sA : Sided A := sided_of wA hA (fun i => e (by rw [i]; exact EReal.top_add_of_ne_bot (nn wB hB)))
  have sB : Sided B := sided_of wB hB (fun i => e (by rw [i]; exact EReal.add_top_of_ne_bot (nn wA hA)))
  exact ⟨ratio_null A B (null_add (mine_null A B tA tB sB h) (yours_null A B tA tB sA h)),
    ratio_null A B (null_add (swept_null A B tA tB sB h) (swept_null B A tB tA sA (fun f => h f.symm)))⟩

end Cert.Wide
end
-- ==== Proof.Math.OverlapEq.lean ====
module
public import proofs.«01_k».proof.Proof.Math.Overlap
@[expose] public section

/-!
# The two forms of the overlap agree

Where the product of the two sizes of a step is not below the least product, the share computed
by products is the share computed by quotients; on an edge of length zero the weight is zero.
-/

namespace Cert.Overlap

/-- The guarded step is its sign times its size. -/
theorem guard_eq (d t : ℝ) : guard d t = sg t * size d t := by
  unfold guard sg size
  split_ifs with h
  · rw [max_eq_left (by linarith : -t ≤ t), one_mul]
  · push Not at h
    rw [max_eq_right (by linarith : t ≤ -t), neg_one_mul]
    rcases le_total t (-d) with h' | h'
    · rw [min_eq_left h', max_eq_left (by linarith)]; ring
    · rw [min_eq_right h', max_eq_right (by linarith)]

theorem size_pos {d : ℝ} (hd : 0 < d) (t : ℝ) : 0 < size d t := lt_of_lt_of_le hd (le_max_right _ _)

/-- The later crossing of a slab. -/
theorem max_quot {d w u t : ℝ} (hd : 0 < d) (hw : 0 ≤ w) :
    max ((-w - u) / guard d t) ((w - u) / guard d t) = (w - sg t * u) / size d t := by
  have hs := size_pos hd t
  rw [guard_eq]
  unfold sg
  split_ifs with h
  · rw [one_mul, one_mul, max_eq_right]
    exact div_le_div_of_nonneg_right (by linarith) hs.le
  · rw [neg_one_mul, div_neg, div_neg, ← neg_div, ← neg_div, max_eq_left]
    · congr 1; ring
    · exact div_le_div_of_nonneg_right (by linarith) hs.le

/-- The earlier crossing of a slab. -/
theorem min_quot {d w u t : ℝ} (hd : 0 < d) (hw : 0 ≤ w) :
    min ((-w - u) / guard d t) ((w - u) / guard d t) = (0 - w - sg t * u) / size d t := by
  have hs := size_pos hd t
  rw [guard_eq]
  unfold sg
  split_ifs with h
  · rw [one_mul, one_mul, min_eq_left]
    · congr 1; ring
    exact div_le_div_of_nonneg_right (by linarith) hs.le
  · rw [neg_one_mul, div_neg, div_neg, ← neg_div, ← neg_div, min_eq_right]
    · congr 1; ring
    · exact div_le_div_of_nonneg_right (by linarith) hs.le

/-- The share by products is the share by quotients. -/
theorem share_eq {d p w h u v u' v' : ℝ} (hd : 0 < d) (hw : 0 ≤ w) (hh : 0 ≤ h)
    (hp : p ≤ size d (u' - u) * size d (v' - v)) :
    share d p w h u v (u' - u) (v' - v) = inside d w h u v u' v' := by
  have hX := size_pos hd (u' - u)
  have hY := size_pos hd (v' - v)
  unfold share inside
  rw [max_quot hd hw, max_quot hd hh, min_quot hd hw, min_quot hd hh, max_eq_left hp]
  generalize size d (u' - u) = X at *
  generalize size d (v' - v) = Y at *
  have hD : 0 < X * Y := mul_pos hX hY
  have e (a : ℝ) : a * Y = a / X * (X * Y) := by field_simp
  have e' (a : ℝ) : a * X = a / Y * (X * Y) := by field_simp
  have z : (0 : ℝ) = 0 * (X * Y) := by ring
  rw [e (w - _), e' (h - _), e (0 - w - _), e' (0 - h - _)]
  generalize (w - sg (u' - u) * u) / X = a
  generalize (h - sg (v' - v) * v) / Y = b
  generalize (0 - w - sg (u' - u) * u) / X = a'
  generalize (0 - h - sg (v' - v) * v) / Y = b'
  generalize X * Y = D at *
  have e1 : min (min (a * D) (b * D)) D = min (min 1 a) b * D := by
    rw [min_mul_of_nonneg _ _ hD.le, min_mul_of_nonneg _ _ hD.le, one_mul, min_comm (min _ _), ← min_assoc]
  have e2 : max (max (a' * D) (b' * D)) 0 = max (max 0 a') b' * D := by
    rw [max_mul_of_nonneg _ _ hD.le, max_mul_of_nonneg _ _ hD.le, zero_mul, max_comm (max _ _), ← max_assoc]
  have e3 (r : ℝ) : max (r * D) 0 = max r 0 * D := by rw [max_mul_of_nonneg _ _ hD.le, zero_mul]
  rw [e1, e2, ← sub_mul, e3, mul_div_cancel_right₀ _ hD.ne']

/-- The sizes of the step of a long enough edge have a product that is not below the least one. -/
theorem size_mul_size {d p m L x y : ℝ} (hd : 0 < d) (hp : 0 ≤ p) (hm : 2 * p ^ 2 ≤ (m * d) ^ 2) (hm0 : 0 ≤ m)
    (hL : m ≤ L) (hxy : x ^ 2 + y ^ 2 = L ^ 2) : p ≤ size d x * size d y := by
  have key (x y : ℝ) (h : L ^ 2 ≤ 2 * x ^ 2) : p ≤ size d x * size d y := by
    have h1 : |x| ≤ size d x := le_max_left _ _
    have h2 : d ≤ size d y := le_max_right _ _
    refine le_trans ?_ (mul_le_mul h1 h2 hd.le (le_trans (abs_nonneg x) h1))
    refine (pow_le_pow_iff_left₀ hp (mul_nonneg (abs_nonneg x) hd.le) two_ne_zero).mp ?_
    rw [mul_pow, sq_abs]
    have h3 : m ^ 2 ≤ L ^ 2 := by gcongr
    have h4 : m ^ 2 * d ^ 2 ≤ 2 * x ^ 2 * d ^ 2 := mul_le_mul_of_nonneg_right (h3.trans h) (sq_nonneg d)
    nlinarith
  rcases le_total (x ^ 2) (y ^ 2) with h | h
  · rw [mul_comm]; exact key y x (by linarith)
  · exact key x y (by linarith)

/-- One weighted share: the two forms agree, on an edge of length zero because its weight is zero. -/
theorem term_eq {d p m L q W H u v u' v' dx dy : ℝ} (hd : 0 < d) (hp : 0 ≤ p) (hm : 2 * p ^ 2 ≤ (m * d) ^ 2)
    (hm0 : 0 ≤ m) (hL : L = 0 ∨ m ≤ L) (hq : L = 0 → q = 0) (hW : 0 ≤ W) (hH : 0 ≤ H)
    (hx : dx = u' - u) (hy : dy = v' - v) (hxy : dx ^ 2 + dy ^ 2 = L ^ 2) :
    1 / 2 * q * share d p W H u v dx dy = 1 / 2 * q * inside d W H u v u' v' := by
  rcases hL with h | h
  · rw [hq h]; ring
  · have := size_mul_size hd hp hm hm0 h hxy
    subst hx hy
    rw [share_eq hd hW hH this]

/-- The kernel's part of one box against another is the swept area. -/
theorem part_eq {d p m : ℝ} (A B : Box) (hd : 0 < d) (hp : 0 ≤ p) (hm : 2 * p ^ 2 ≤ (m * d) ^ 2)
    (hm0 : 0 ≤ m) (hAw : A.w = 0 ∨ m ≤ A.w) (hAh : A.h = 0 ∨ m ≤ A.h) (hBw : 0 ≤ B.w) (hBh : 0 ≤ B.h)
    {c s ca sa cb sb ux uy q0 q1 q2 q3 : ℝ} (hca : Real.cos A.t = ca) (hsa : Real.sin A.t = sa)
    (hcb : Real.cos B.t = cb) (hsb : Real.sin B.t = sb)
    (hc : c = ca * cb + sa * sb) (hs : s = sa * cb - ca * sb)
    (hux : ux = (A.x - B.x) * cb + (A.y - B.y) * sb) (huy : uy = (0 - (A.x - B.x)) * sb + (A.y - B.y) * cb)
    (h0 : q0 = edge A.x A.y ca sa (A.w * (1 / 2)) (A.h * (1 / 2)) (-1 * (A.w * (1 / 2))) (A.h * (1 / 2)))
    (h1 : q1 = edge A.x A.y ca sa (-1 * (A.w * (1 / 2))) (A.h * (1 / 2)) (-1 * (A.w * (1 / 2))) (-1 * (A.h * (1 / 2))))
    (h2 : q2 = edge A.x A.y ca sa (-1 * (A.w * (1 / 2))) (-1 * (A.h * (1 / 2))) (A.w * (1 / 2)) (-1 * (A.h * (1 / 2))))
    (h3 : q3 = edge A.x A.y ca sa (A.w * (1 / 2)) (-1 * (A.h * (1 / 2))) (A.w * (1 / 2)) (A.h * (1 / 2))) :
    part d p ux uy c s (A.w * (1 / 2)) (A.h * (1 / 2)) (B.w * (1 / 2)) (B.h * (1 / 2)) q0 q1 q2 q3 = swept d A B := by
  have ha : ca ^ 2 + sa ^ 2 = 1 := by rw [← hca, ← hsa]; exact Real.cos_sq_add_sin_sq _
  have hb : cb ^ 2 + sb ^ 2 = 1 := by rw [← hcb, ← hsb]; exact Real.cos_sq_add_sin_sq _
  have hcs : c ^ 2 + s ^ 2 = 1 := by
    rw [hc, hs]; linear_combination (cb ^ 2 + sb ^ 2) * ha + hb
  have hpx0 : A.px 0 = A.x + A.w * (1 / 2) * ca - A.h * (1 / 2) * sa := by
    simp [Box.px, sx, sy, hca, hsa]; ring
  have hpx1 : A.px 1 = A.x - A.w * (1 / 2) * ca - A.h * (1 / 2) * sa := by
    simp [Box.px, sx, sy, hca, hsa]; ring
  have hpx2 : A.px 2 = A.x - A.w * (1 / 2) * ca + A.h * (1 / 2) * sa := by
    simp [Box.px, sx, sy, hca, hsa]; ring
  have hpx3 : A.px 3 = A.x + A.w * (1 / 2) * ca + A.h * (1 / 2) * sa := by
    simp [Box.px, sx, sy, hca, hsa]; ring
  have hpy0 : A.py 0 = A.y + A.w * (1 / 2) * sa + A.h * (1 / 2) * ca := by
    simp [Box.py, sx, sy, hca, hsa]; ring
  have hpy1 : A.py 1 = A.y - A.w * (1 / 2) * sa + A.h * (1 / 2) * ca := by
    simp [Box.py, sx, sy, hca, hsa]; ring
  have hpy2 : A.py 2 = A.y - A.w * (1 / 2) * sa - A.h * (1 / 2) * ca := by
    simp [Box.py, sx, sy, hca, hsa]; ring
  have hpy3 : A.py 3 = A.y + A.w * (1 / 2) * sa - A.h * (1 / 2) * ca := by
    simp [Box.py, sx, sy, hca, hsa]; ring
  have f1 : (0 : Fin 4) + 1 = 1 := rfl
  have f2 : (1 : Fin 4) + 1 = 2 := rfl
  have f3 : (2 : Fin 4) + 1 = 3 := rfl
  have f4 : (3 : Fin 4) + 1 = 0 := rfl
  unfold swept part
  rw [Fin.sum_univ_four, f1, f2, f3, f4]
  simp only [Box.u, Box.v, hcb, hsb, hpx0, hpx1, hpx2, hpx3, hpy0, hpy1, hpy2, hpy3]
  have hW : 0 ≤ B.w * (1 / 2) := by linarith
  have hH : 0 ≤ B.h * (1 / 2) := by linarith
  have T {L q Q u v u1 v1 u' v' dx dy : ℝ} (hL : L = 0 ∨ m ≤ L) (hQ : q = Q) (hq : L = 0 → q = 0)
      (hu : u1 = u) (hv : v1 = v)
      (hx : dx = u' - u) (hy : dy = v' - v) (hxy : dx ^ 2 + dy ^ 2 = L ^ 2) :
      1 / 2 * q * share d p (B.w * (1 / 2)) (B.h * (1 / 2)) u1 v1 dx dy =
        1 / 2 * Q * inside d (B.w * (1 / 2)) (B.h * (1 / 2)) u v u' v' := by
    subst hu hv hQ
    exact term_eq hd hp hm hm0 hL hq hW hH hx hy hxy
  congr 1
  · congr 1
    · congr 1
      · refine T hAw ?_ ?_ ?_ ?_ ?_ ?_ ?_
        · rw [h0]; unfold edge cross cx cy; ring
        · intro h; rw [h0, h]; unfold edge cross cx cy; ring
        · rw [hux, hc, hs]; ring
        · rw [huy, hc, hs]; ring
        · rw [hc, hs]; ring
        · rw [hc, hs]; ring
        · linear_combination A.w ^ 2 * hcs
      · refine T hAh ?_ ?_ ?_ ?_ ?_ ?_ ?_
        · rw [h1]; unfold edge cross cx cy; ring
        · intro h; rw [h1, h]; unfold edge cross cx cy; ring
        · rw [hux, hc, hs]; ring
        · rw [huy, hc, hs]; ring
        · rw [hc, hs]; ring
        · rw [hc, hs]; ring
        · linear_combination A.h ^ 2 * hcs
    · refine T hAw ?_ ?_ ?_ ?_ ?_ ?_ ?_
      · rw [h2]; unfold edge cross cx cy; ring
      · intro h; rw [h2, h]; unfold edge cross cx cy; ring
      · rw [hux, hc, hs]; ring
      · rw [huy, hc, hs]; ring
      · rw [hc, hs]; ring
      · rw [hc, hs]; ring
      · linear_combination A.w ^ 2 * hcs
  · refine T hAh ?_ ?_ ?_ ?_ ?_ ?_ ?_
    · rw [h3]; unfold edge cross cx cy; ring
    · intro h; rw [h3, h]; unfold edge cross cx cy; ring
    · rw [hux, hc, hs]; ring
    · rw [huy, hc, hs]; ring
    · rw [hc, hs]; ring
    · rw [hc, hs]; ring
    · linear_combination A.h ^ 2 * hcs

/-- The kernel's common area is the sum of the two swept areas. -/
theorem common_eq {d p m : ℝ} (A B : Box) (hd : 0 < d) (hp : 0 ≤ p) (hm : 2 * p ^ 2 ≤ (m * d) ^ 2)
    (hm0 : 0 ≤ m) (hAw : A.w = 0 ∨ m ≤ A.w) (hAh : A.h = 0 ∨ m ≤ A.h)
    (hBw : B.w = 0 ∨ m ≤ B.w) (hBh : B.h = 0 ∨ m ≤ B.h) :
    common d p A.x A.y A.w A.h (Real.cos A.t) (Real.sin A.t) B.x B.y B.w B.h (Real.cos B.t) (Real.sin B.t) =
      swept d A B + swept d B A := by
  have nn {x : ℝ} (h : x = 0 ∨ m ≤ x) : 0 ≤ x := by rcases h with h | h <;> linarith
  unfold common
  congr 1
  · exact part_eq A B hd hp hm hm0 hAw hAh (nn hBw) (nn hBh) rfl rfl rfl rfl rfl rfl rfl rfl rfl rfl rfl rfl
  · refine part_eq B A hd hp hm hm0 hBw hBh (nn hAw) (nn hAh) rfl rfl rfl rfl ?_ ?_ ?_ ?_ rfl rfl rfl rfl <;> ring

end Cert.Overlap
-- ==== Proof.Value.IouK.lean ====
module
public import proofs.«01_k».proof.Proof.Value.SortedK
public import proofs.«01_k».proof.Proof.Value.OverlapK
public import proofs.«01_k».proof.Proof.Value.Pre
public import proofs.«01_k».proof.Proof.Value.Verdict
public import proofs.«01_k».proof.Proof.Value.WideReal
public import proofs.«01_k».proof.Proof.Value.WideNull
public import proofs.«01_k».proof.Proof.Math.OverlapEq
@[expose] public section
set_option maxRecDepth 16384
set_option maxHeartbeats 400000

/-!
# The kernel's overlap matrix

An entry of the matrix is the overlap ratio, by products, of the boxes sorted to its row and column. It is above the
threshold exactly when the ratio by quotients is.
-/

open Idealize.ShloMosaic Idealize.ShloMosaic.TcCoe
open Cert Cert.KernelIdeal Cert.KernelIdeal.Gen Cert.KernelIdeal.Body
open Cert.Overlap

namespace Cert.Value

/-- Padding rows come last, so the sort of the padded scores is the sort of the scores. -/
theorem placeK_up (g : FVec Ideal S1000 .f32) (hs : ∀ a, Ideal.ofBits .f32 4048155338#32 ≤ g (ix1 a)) (a : Fin 1000) :
    placeK g (up a) = up (Rank.place (byScore fun k => g (ix1 k)) a) := by
  unfold placeK
  refine (Rank.place_castLE (by norm_num : 1000 ≤ 1024) (byScore (padded g)) (fun k x hk hx => ?_) a).trans ?_
  · show ¬ (padded g x < padded g k)
    unfold padded
    rw [dif_pos hx, dif_neg (by omega)]
    exact not_lt.mpr (hs _)
  · refine congrArg up (congrArg (fun key => Rank.place key a) ?_)
    funext k
    exact congrArg OrderDual.toDual (dif_pos k.isLt)

/-- Sides are zero or not too small, and the scores are not below a padding row's. -/
structure InRange (x : FVec Ideal S1000x5 .f32) (g : FVec Ideal S1000 .f32) : Prop where
  sw : ∀ a, x (ix2 a 2) = 0 ∨ (side : EReal) ≤ x (ix2 a 2)
  sh : ∀ a, x (ix2 a 3) = 0 ∨ (side : EReal) ≤ x (ix2 a 3)
  hs : ∀ a, Ideal.ofBits .f32 4048155338#32 ≤ g (ix1 a)

/-- A box of the table. -/
noncomputable def wide (x : FVec Ideal S1000x5 .f32) (a : Fin 1000) : Wide.Box :=
  ⟨x (ix2 a 0), x (ix2 a 1), x (ix2 a 2), x (ix2 a 3), Ideal.cos (x (ix2 a 4)), Ideal.sin (x (ix2 a 4))⟩

/-- The least side is large enough for the two ways of guarding a slope to agree. -/
theorem side_enough : 2 * least ^ 2 ≤ (side * tiny) ^ 2 := by
  unfold least side tiny; norm_num

theorem side_nonneg : 0 ≤ side := by unfold side; positivity

/-- The cosine and the sine of an angle. -/
theorem turned_angle (t : EReal) : Wide.Turned (Ideal.cos t) (Ideal.sin t) := by
  induction t using EReal.rec with
  | bot => exact Or.inr ⟨rfl, rfl⟩
  | top => exact Or.inr ⟨rfl, rfl⟩
  | coe r =>
    refine Or.inl ⟨Wide.not_inf_coe (Real.cos r), Wide.not_inf_coe (Real.sin r), ?_⟩
    by_contra z
    push Not at z
    have c : Real.cos r = 0 := EReal.coe_eq_zero.mp z.1
    have s : Real.sin r = 0 := EReal.coe_eq_zero.mp z.2
    have := Real.sin_sq_add_cos_sq r
    rw [c, s] at this
    norm_num at this

/-- A finite box of the table, as a real box. -/
theorem real_box (x : FVec Ideal S1000x5 .f32) (a : Fin 1000) (h : Wide.Finite (wide x a)) :
    ∃ A : Box, wide x a = Wide.ofReal A ∧ x (ix2 a 2) = (A.w : EReal) ∧ x (ix2 a 3) = (A.h : EReal) := by
  obtain ⟨hx, hy, hw, hh, hc, _⟩ := h
  have ht : ¬ Wide.Inf (x (ix2 a 4)) := fun i => hc (by
    show Wide.Inf (Ideal.cos (x (ix2 a 4)))
    rcases i with i | i <;> rw [i] <;> exact Wide.inf_bot)
  obtain ⟨x', ex⟩ := Wide.real_of _ hx
  obtain ⟨y', ey⟩ := Wide.real_of _ hy
  obtain ⟨w', ew⟩ := Wide.real_of _ hw
  obtain ⟨h', eh⟩ := Wide.real_of _ hh
  obtain ⟨t', et⟩ := Wide.real_of _ ht
  refine ⟨⟨x', y', w', h', t'⟩, ?_, ew, eh⟩
  show (⟨x (ix2 a 0), x (ix2 a 1), x (ix2 a 2), x (ix2 a 3), Ideal.cos (x (ix2 a 4)), Ideal.sin (x (ix2 a 4))⟩ : Wide.Box) = _
  rw [et, show x (ix2 a 0) = _ from ex, show x (ix2 a 1) = _ from ey, show x (ix2 a 2) = _ from ew, show x (ix2 a 3) = _ from eh]
  rfl

theorem real_side {v : EReal} {r : ℝ} (e : v = (r : EReal)) (h : v = 0 ∨ (side : EReal) ≤ v) : r = 0 ∨ side ≤ r := by
  rw [e] at h
  exact h.imp (fun e => EReal.coe_eq_zero.mp e) (fun e => EReal.coe_le_coe_iff.mp e)

theorem side_zero_le {v : EReal} (h : v = 0 ∨ (side : EReal) ≤ v) : 0 ≤ v :=
  h.elim (fun e => e.ge) (fun e => (EReal.coe_nonneg.mpr side_nonneg).trans e)

theorem thr_nonneg : 0 ≤ thr := by
  have : thr = ((11744051 / 16777216 : ℝ) : EReal) := by
    unfold thr; simp [Ideal.ofBits, Ideal.ieee, -EReal.coe_mul]; norm_num
  rw [this]
  exact EReal.coe_nonneg.mpr (by norm_num)

/-- The ratio by products is above the threshold exactly when the ratio by quotients is. -/
theorem same_over (x : FVec Ideal S1000x5 .f32) (g : FVec Ideal S1000 .f32) (hB : InRange x g) (a b : Fin 1000) :
    thr < Wide.ratio (wide x a) (wide x b) (Wide.mine (wide x a) (wide x b) + Wide.yours (wide x a) (wide x b)) ↔
      thr < Wide.ratio (wide x a) (wide x b) (Wide.swept (wide x a) (wide x b) + Wide.swept (wide x b) (wide x a)) := by
  by_cases h : Wide.Finite (wide x a) ∧ Wide.Finite (wide x b)
  · obtain ⟨A, eA, wA, hA⟩ := real_box x a h.1
    obtain ⟨C, eC, wC, hC⟩ := real_box x b h.2
    rw [eA, eC, Wide.parts_ofReal, Wide.swept_ofReal, Wide.swept_ofReal,
      common_eq A C tiny_pos least_pos.le side_enough side_nonneg (real_side wA (hB.sw a)) (real_side hA (hB.sh a))
        (real_side wC (hB.sw b)) (real_side hC (hB.sh b)), EReal.coe_add]
  · obtain ⟨p, q⟩ := Wide.ratios_null (wide x a) (wide x b) (turned_angle _) (turned_angle _) (side_zero_le (hB.sw a)) (side_zero_le (hB.sh a))
      (side_zero_le (hB.sw b)) (side_zero_le (hB.sh b)) h
    exact ⟨fun l => absurd (l.trans_le p) (not_lt.mpr thr_nonneg), fun l => absurd (l.trans_le q) (not_lt.mpr thr_nonneg)⟩

/-- The block of the matrix computed at a point begins at its row. -/
theorem row_from : ∀ t : Fin cfg0.N, 1 ≤ t.val → k0_off1 (grid0.coords t) = ![(t.val - 1) * 128, 0] :=
  (by decide +kernel : ∀ t : Fin grid0.N, 1 ≤ t.val → k0_off1 (grid0.coords t) = ![(t.val - 1) * 128, 0])

variable (m : (ℓ : Loc nD τ sig) → Buf (Elt Ideal) ℓ) (c : Dev nD)
variable (x : FVec Ideal S1000x5 .f32) (g : FVec Ideal S1000 .f32)

/-- The rows a block reads are rows of the sorted table. -/
theorem block_row (r : Fin 1024) (k : Fin 16) :
    View.readAt (Elt Ideal) sc_0.view (Rect.unit (s := S1024x16) (k0_off1 (grid0.coords (tB r))) ![128, 16] (k0_off1_inb (grid0.coords (tB r)) (cond2_tB r))).toLoadRect
      ((Memref.isWhole_whole cc0_scratch0).unread (sorted0 m c)) (ix2 (⟨r.val % 128, Nat.mod_lt _ (by decide)⟩ : Fin 128) k) = sorted0 m c (ix2 r k) := by
  rw [Memref.IsWhole.readAt_unread]
  refine congrArg _ ?_
  have h := row_from (tB r) (Nat.le_add_left 1 _)
  funext a; fin_cases a
  · refine Fin.ext ?_
    show k0_off1 (grid0.coords (tB r)) 0 + 1 * (r.val % 128) = r.val
    rw [h]
    show (r.val / 128 + 1 - 1) * 128 + 1 * (r.val % 128) = r.val
    omega
  · refine Fin.ext ?_
    show k0_off1 (grid0.coords (tB r)) 1 + 1 * k.val = k.val
    rw [h]
    exact at_origin _

/-- The columns a block reads are the sorted table of columns. -/
theorem block_col (k : Fin 16) (r : Fin 1024) :
    View.readAt (Elt Ideal) sc_1.view (Rect.unit (s := S16x1024) ![0, 0] ![16, 1024] inb_S16x1024_S16x1024_0_0).toLoadRect
      ((Memref.isWhole_whole cc0_scratch1).unread (sorted1 m c)) (ix2 k r) = sorted1 m c (ix2 k r) := by
  rw [Memref.IsWhole.readAt_unread]
  refine congrArg _ ?_
  funext a; fin_cases a <;> exact Fin.ext (at_origin _)

/-- A row below a thousand keeps its number. -/
theorem up_val (a : Fin 1000) : a.val = (up a).val := rfl

/-- The six numbers of a sorted box. -/
theorem sorted_box (hx : (start m c main_arg0 : Vec Ideal S1000x5 .f32) = x) (hg : (start m c main_arg1 : Vec Ideal S1000 .f32) = g)
    (hB : InRange x g) (a : Fin 1000) (T : Fin 16 → EReal)
    (hT : ∀ k, T k = (StableHlo.after hostOps0 (start m c) main_v26 : Vec Ideal S1024x16 .f32) (ix2 (placeK g (up a)) k)) :
    T 0 = (wide x (Rank.place (byScore fun k => g (ix1 k)) a)).x ∧ T 1 = (wide x (Rank.place (byScore fun k => g (ix1 k)) a)).y ∧ T 2 = (wide x (Rank.place (byScore fun k => g (ix1 k)) a)).w ∧ T 3 = (wide x (Rank.place (byScore fun k => g (ix1 k)) a)).h ∧ T 4 = (wide x (Rank.place (byScore fun k => g (ix1 k)) a)).c ∧ T 5 = (wide x (Rank.place (byScore fun k => g (ix1 k)) a)).s := by
  rw [placeK_up g hB.hs] at hT
  have blk (l : Fin 4) (k : Fin 16) (hk : l.val = k.val) (j : Fin 5) (hj : l.val = j.val) :
      T k = x (ix2 (Rank.place (byScore fun k => g (ix1 k)) a) j) :=
    (hT k).trans (table_block (start m c) x hx (Rank.place (byScore fun k => g (ix1 k)) a) (up (Rank.place (byScore fun k => g (ix1 k)) a)) (up_val _) l k hk j hj)
  have hc : T 4 = Ideal.cos (x (ix2 (Rank.place (byScore fun k => g (ix1 k)) a) 4)) :=
    (hT 4).trans (table_cos (start m c) x hx (Rank.place (byScore fun k => g (ix1 k)) a) (up (Rank.place (byScore fun k => g (ix1 k)) a)) (up_val _))
  have hs : T 5 = Ideal.sin (x (ix2 (Rank.place (byScore fun k => g (ix1 k)) a) 4)) :=
    (hT 5).trans (table_sin (start m c) x hx (Rank.place (byScore fun k => g (ix1 k)) a) (up (Rank.place (byScore fun k => g (ix1 k)) a)) (up_val _))
  exact ⟨blk 0 0 rfl 0 rfl, blk 1 1 rfl 1 rfl, blk 2 2 rfl 2 rfl, blk 3 3 rfl 3 rfl, hc, hs⟩

/-- An entry of the overlap matrix. -/
theorem overlaps_entry (hx : (start m c main_arg0 : Vec Ideal S1000x5 .f32) = x) (hg : (start m c main_arg1 : Vec Ideal S1000 .f32) = g)
    (hB : InRange x g) (a b : Fin 1000) :
    overlaps m c (ix2 (up a) (up b)) =
      Wide.ratio (wide x (Rank.place (byScore fun k => g (ix1 k)) a)) (wide x (Rank.place (byScore fun k => g (ix1 k)) b))
        (Wide.mine (wide x (Rank.place (byScore fun k => g (ix1 k)) a)) (wide x (Rank.place (byScore fun k => g (ix1 k)) b)) +
          Wide.yours (wide x (Rank.place (byScore fun k => g (ix1 k)) a)) (wide x (Rank.place (byScore fun k => g (ix1 k)) b))) := by
  obtain ⟨rp, hrp⟩ : ∃ rp : Vec Ideal S128x16 .f32, rp = View.readAt (Elt Ideal) sc_0.view (Rect.unit (s := S1024x16) (k0_off1 (grid0.coords (tB (up a)))) ![128, 16] (k0_off1_inb (grid0.coords (tB (up a))) (cond2_tB (up a)))).toLoadRect
      ((Memref.isWhole_whole cc0_scratch0).unread (sorted0 m c)) := ⟨_, rfl⟩
  obtain ⟨cp, hcp⟩ : ∃ cp : Vec Ideal S16x1024 .f32, cp = View.readAt (Elt Ideal) sc_1.view (Rect.unit (s := S16x1024) ![0, 0] ![16, 1024] inb_S16x1024_S16x1024_0_0).toLoadRect
      ((Memref.isWhole_whole cc0_scratch1).unread (sorted1 m c)) := ⟨_, rfl⟩
  have hr : ∀ k, rp (ix2 (⟨(up a).val % 128, Nat.mod_lt _ (by decide)⟩ : Fin 128) k) = (StableHlo.after hostOps0 (start m c) main_v26 : Vec Ideal S1024x16 .f32) (ix2 (placeK g (up a)) k) := fun k => by
    rw [hrp]; exact (block_row m c (up a) k).trans (sorted0_entry m c g hg (up a) k)
  have hc : ∀ k, cp (ix2 k (up b)) = (StableHlo.after hostOps0 (start m c) main_v26 : Vec Ideal S1024x16 .f32) (ix2 (placeK g (up b)) k) := fun k => by
    rw [hcp]; exact (block_col m c k (up b)).trans (sorted1_entry m c g hg k (up b))
  obtain ⟨r0, r1, r2, r3, r4, r5⟩ := sorted_box m c x g hx hg hB a (fun k => rp (ix2 (⟨(up a).val % 128, Nat.mod_lt _ (by decide)⟩ : Fin 128) k)) hr
  obtain ⟨c0, c1, c2, c3, c4, c5⟩ := sorted_box m c x g hx hg hB b (fun k => cp (ix2 k (up b))) hc
  exact overlap_entry c (grid0.coords (tB (up a))) sc_0 (Memref.isWhole_whole _) sc_1 (Memref.isWhole_whole _) (cond2_tB (up a)) (sorted0 m c) (sorted1 m c)
    ⟨(up a).val % 128, Nat.mod_lt _ (by decide)⟩ (up b) rp cp hrp hcp _ _ r0 c0 r1 c1 r2 c2 r3 c3 r4 c4 r5 c5

/-- An entry is above the threshold exactly when the boxes overlap by more than it. -/
theorem overlaps_over (hx : (start m c main_arg0 : Vec Ideal S1000x5 .f32) = x) (hg : (start m c main_arg1 : Vec Ideal S1000 .f32) = g)
    (hB : InRange x g) (a b : Fin 1000) : thr < overlaps m c (ix2 (up a) (up b)) ↔ over (wide x) (fun k => g (ix1 k)) a b = true := by
  rw [overlaps_entry m c x g hx hg hB, over, decide_eq_true_eq]
  exact same_over x g hB _ _

end Cert.Value
end
-- ==== Proof.Value.SuffixK.lean ====
module
public import proofs.«01_k».proof.Proof.Body.KernelIdealFrame
public import Idealize.ShloMosaic.Lib.Pipeline.ValueKit.Geometry
public import Idealize.ShloMosaic.Lib.Pipeline.ValueKit.Point
public import Idealize.ShloMosaic.Lib.StableHlo.ReadAt
public import Idealize.ShloMosaic.Lib.Pointwise
public import proofs.«01_k».proof.Proof.Value.KeepK
@[expose] public section
set_option maxRecDepth 16384
set_option maxHeartbeats 400000

/-!
# The kernel's result

The result is the first thousand entries of what the last point of the grid writes.
-/

open Idealize.ShloMosaic Idealize.ShloMosaic.TcCoe
open Cert Cert.KernelIdeal Cert.KernelIdeal.Gen Cert.KernelIdeal.Body

namespace Cert.Value

/-- An offset of zero with unit stride leaves a coordinate. -/
theorem at_zero (k : Nat) : 0 + 1 * k = k := by omega

variable (m : (ℓ : Loc nD τ sig) → Buf (Elt Ideal) ℓ) (c : Dev nD)

/-- The launch leaves the answer in its output. -/
theorem array_answer : ((dats m 0 c).arrAt 3 cfg0.N : Vec Ideal S1024x1 .i32) = answer m c := by
  refine (dats m 0 c).arrAt_eq_of_covers 3 (answer m c) (by decide +kernel) (fun t hf y => ?_)
  rw [after_3]
  refine congrArg (answer m c) ?_
  funext a; fin_cases a <;> exact Fin.ext (at_zero _).symm

/-- Cutting the answer to a vector of its first thousand entries, read. -/
theorem cut_read (W : Valuation τ sig (Elt Ideal)) (v : IVec S1024x1 32) (hv : (W main_v29 : Vec Ideal S1024x1 .i32) = v) (i : Fin 1000) :
    (StableHlo.after hostOps1 W main_v31 : Vec Ideal S1000 .i32) (ix1 i) = v (ix2 (up i) 0) := by
  have e : (StableHlo.after hostOps1 W main_v31 : Vec Ideal S1000 .i32) =
      shapeCast S1000 (extractStridedSlice S1000x1 ![0, 0] v slices_S1024x1_S1000x1_0_0) shapeCasts_S1000x1_S1000 := by
    rw [← hv]
    unfold hostOps1; after_reads_simp; first | done | rfl
  rw [e]
  pointwise
  rfl

/-- The result buffer after the run. -/
theorem result_entry (i : Fin 1000) :
    (Pipeline.afterTail₀ cfgs (dats m) 0 (V0 m) [hostOps1] c main_v31 : Vec Ideal S1000 .i32) (ix1 i) = answer m c (ix2 (up i) 0) := by
  refine cut_read _ (answer m c) ?_ i
  refine Eq.trans ?_ (array_answer m c)
  exact Pipeline.withArrays_arr cfg0.spec (by decide) c (V0 m c) (fun w => (dats m 0 c).arrAt w cfg0.N) 3

/-- Every run ends with the result at the cut of the answer, and with the arguments as they were. -/
theorem run_result (ρ : Dev nD → PrngReg) : θ_run defs (onTc (τ := τ) (main (F := Ideal))) ⟨m, fun _ => 0, ρ⟩ (fun r => ∀ c : Dev nD,
    r.2.mem ((c.tc : Thread nD τ).loc main_v31) = Pipeline.afterTail₀ cfgs (dats m) 0 (V0 m) [hostOps1] c main_v31 ∧
    r.2.mem ((c.tc : Thread nD τ).loc main_arg0) = m ((c.tc : Thread nD τ).loc main_arg0) ∧
    r.2.mem ((c.tc : Thread nD τ).loc main_arg1) = m ((c.tc : Thread nD τ).loc main_arg1)) :=
  (θ_run defs _ _).mono (fun _ h c => ⟨(h c).2 main_v31 (Pipeline.mem_restRefs_of main_v31 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_post m ρ)

end Cert.Value
end
-- ==== Proof.Value.ResultK.lean ====
module
public import proofs.«01_k».proof.Proof.Value.IouK
public import proofs.«01_k».proof.Proof.Value.SuffixK
@[expose] public section
set_option maxRecDepth 16384
set_option maxHeartbeats 400000

/-!
# What the kernel returns

The suppression loop over the overlap matrix, and the result.
-/

open Idealize.ShloMosaic Idealize.ShloMosaic.TcCoe
open Cert Cert.KernelIdeal Cert.KernelIdeal.Gen Cert.KernelIdeal.Body
open Cert.Overlap

namespace Cert.Value

variable (m : (ℓ : Loc nD τ sig) → Buf (Elt Ideal) ℓ) (c : Dev nD)

/-- The suppression before trip `k`. -/
noncomputable abbrev carried (k : Nat) : FVec Ideal S1x1024 .f32 :=
  st_k0_t1 Variants.none c none (grid0.coords tC) (st_0 tC) (hst_0 tC) (st_1 tC) (hst_1 tC) (st_2 tC) (hst_2 tC) (st_3 tC) (hst_3 tC)
      sc_0 (Memref.isWhole_whole _) sc_1 (Memref.isWhole_whole _) sc_2 (Memref.isWhole_whole _) ((cond3_iff tC).mpr rfl)
      ((Memref.isWhole_whole cc0_scratch2).unread (overlaps m c)) k0_pay190 k

/-- The row of the overlap matrix trip `k` reads. -/
noncomputable abbrev tripRow (k : Fin k0_t1_loop.trips) : Vec Ideal S1x1024 .f32 :=
  sc_2.view.readAt (Elt Ideal) (Rect.unit (s := S1024x1024) (k0_off3 k) S1x1024.size (k0_off3_inb (grid0.coords tC) k ((cond3_iff tC).mpr rfl))).toLoadRect
    ((Memref.isWhole_whole cc0_scratch2).unread (overlaps m c))

/-- One more trip. -/
theorem carried_succ (k : Fin k0_t1_loop.trips) : carried m c (k.val + 1) = k0_pay191 k (carried m c k.val) (tripRow m c k) := by
  unfold carried
  rw [st_k0_t1_succ]
  unfold tripR_k0_t1 trip_k0_t1
  rfl

/-- Trip `k` reads from row `k`. -/
theorem row_of_trip : ∀ k : Fin k0_t1_loop.trips, k0_off3 k = ![k.val, 0] := by decide +kernel

/-- Trip `k` reads row `k`. -/
theorem tripRow_entry (k : Fin k0_t1_loop.trips) (r : Fin 1000) (hk : k.val = r.val) (b : Fin 1024) :
    tripRow m c k (ix2 0 b) = overlaps m c (ix2 (up r) b) := by
  unfold tripRow
  rw [Memref.IsWhole.readAt_unread]
  refine congrArg _ ?_
  have e := row_of_trip k
  funext a; fin_cases a
  · refine Fin.ext ?_
    show k0_off3 k 0 + 1 * 0 = r.val
    rw [e, ← hk]; rfl
  · refine Fin.ext ?_
    show k0_off3 k 1 + 1 * b.val = b.val
    rw [e]; exact at_origin _

/-- The suppression after `k` trips. -/
theorem carried_entry (o : Fin 1000 → Fin 1000 → Bool) (ho : ∀ a b, thr < overlaps m c (ix2 (up a) (up b)) ↔ o a b = true) (k : Nat) (hk : k ≤ 1000) (b : Fin 1000) :
    carried m c k (ix2 0 (up b)) = if Keep.supp o k b then (1 : EReal) else 0 := by
  induction k generalizing b with
  | zero =>
    rw [Keep.supp_zero]
    show k0_pay190 (F := Ideal) (ix2 0 (up b)) = _
    pointwise [k0_pay190]
    exact (if_neg Bool.false_ne_true).symm
  | succ k ih =>
    have ht : k < k0_t1_loop.trips := by
      have : k0_t1_loop.trips = 1000 := by decide
      omega
    have h := carried_succ m c ⟨k, ht⟩
    refine (congrFun h _).trans ?_
    rw [trip_entry ⟨k, ht⟩ ⟨k, hk⟩ rfl _ _ (Keep.supp o k) (o ⟨k, hk⟩) (fun b => ih (by omega) b) (fun b => ?_) b]
    · rw [show k + 1 = (⟨k, hk⟩ : Fin 1000).val + 1 from rfl, Keep.supp_succ]
    · rw [tripRow_entry m c ⟨k, ht⟩ ⟨k, hk⟩ rfl]
      exact ho _ _

variable (x : FVec Ideal S1000x5 .f32) (g : FVec Ideal S1000 .f32)

/-- The kernel's answer. -/
theorem answer_entry (hx : (start m c main_arg0 : Vec Ideal S1000x5 .f32) = x) (hg : (start m c main_arg1 : Vec Ideal S1000 .f32) = g)
    (hB : InRange x g) (i : Fin 1000) : answer m c (ix2 (up i) 0) = verdict (wide x) (fun k => g (ix1 k)) i := by
  have ho : ∀ a b, thr < overlaps m c (ix2 (up a) (up b)) ↔ over (wide x) (fun k => g (ix1 k)) a b = true := overlaps_over m c x g hx hg hB
  have ht : Scf.trips 0#32 (Scalar.addi 0#32 1000#32) 1#32 = 1000 := by decide
  unfold answer
  refine (keep_entry _ _ (gone (wide x) fun k => g (ix1 k)) (fun k => (placeK g k).val) (fun k => (placeK g k).isLt) (fun b => ?_) (fun k => ?_) i).trans ?_
  · rw [ht]
    exact carried_entry m c _ ho 1000 le_rfl b
  · rw [Memref.IsWhole.readAt_unread]
    refine Eq.trans ?_ ((sorted0_entry m c g hg k 6).trans (table_number _ _))
    refine congrArg _ ?_
    funext a; fin_cases a
    · exact Fin.ext (at_origin _)
    · exact Fin.ext rfl
  · unfold verdict listed
    have e := (congrArg Fin.val (placeK_up g hB.hs (Rank.place (Keep.key (gone (wide x) fun k => g (ix1 k))) i))).trans (up_val _).symm
    exact congrArg (fun t => if gone (wide x) (fun k => g (ix1 k)) (Rank.place (Keep.key (gone (wide x) fun k => g (ix1 k))) i) then 4294967295#32 else BitVec.ofNat 32 t) e

end Cert.Value
end
-- ==== Proof.Value.OverlapR.lean ====
module
public import proofs.«01_k».proof.Proof.Gen.ReferenceIdeal.Run
public import Idealize.ShloMosaic.Lib.Pointwise
public import Idealize.ShloMosaic.Lib.StableHlo.ReadAt
public import proofs.«01_k».proof.Proof.Value.Constants
public import proofs.«01_k».proof.Proof.Value.Wide
@[expose] public section
set_option maxRecDepth 16384
set_option maxHeartbeats 4000000
open Idealize.ShloMosaic Idealize.ShloMosaic.TcCoe
open Cert Cert.ReferenceIdeal Cert.ReferenceIdeal.Gen
namespace Cert.Value

variable (W : Valuation τ sig (Elt Ideal))

open Cert.Wide

/-- The contents after the stretches that place the corners in the frames and divide by the steps. -/
noncomputable abbrev framed : Valuation τ sig (Elt Ideal) :=
  StableHlo.after hostOps0_8 (StableHlo.after hostOps0_7 (StableHlo.after hostOps0_6 (StableHlo.after hostOps0_5 W)))

/-- The stretches keep `main_v8`. -/
theorem keep_v8 : (framed W main_v8 : Vec Ideal S1000x5 .f32) = W main_v8 := by
  unfold framed hostOps0_8 hostOps0_7 hostOps0_6 hostOps0_5; after_reads_simp

/-- The stretches keep `main_v44`. -/
theorem keep_v44 : (framed W main_v44 : Vec Ideal S1000x4 .f32) = W main_v44 := by
  unfold framed hostOps0_8 hostOps0_7 hostOps0_6 hostOps0_5; after_reads_simp

/-- The stretches keep `main_v51`. -/
theorem keep_v51 : (framed W main_v51 : Vec Ideal S1000x4 .f32) = W main_v51 := by
  unfold framed hostOps0_8 hostOps0_7 hostOps0_6 hostOps0_5; after_reads_simp

/-- The stretches keep `main_v52`. -/
theorem keep_v52 : (framed W main_v52 : Vec Ideal S1000x4 .f32) = W main_v52 := by
  unfold framed hostOps0_8 hostOps0_7 hostOps0_6 hostOps0_5; after_reads_simp

/-- The stretches keep `main_v53`. -/
theorem keep_v53 : (framed W main_v53 : Vec Ideal S1000x4 .f32) = W main_v53 := by
  unfold framed hostOps0_8 hostOps0_7 hostOps0_6 hostOps0_5; after_reads_simp

/-- Half the second side of the box whose frame it is. -/
theorem framed_half (B : Fin 1000 → Wide.Box)
    (h3 : ∀ a, (W main_v8 : Vec Ideal S1000x5 .f32) (ix2 a 3) = (B a).h)
    (b : Fin 1000) :
    (framed W main_v112 : Vec Ideal S1x1000x1 .f32) (ix3 0 b 0) = half (B b).h := by
  unfold framed hostOps0_8 hostOps0_7 hostOps0_6 hostOps0_5; after_reads_at
  simp only [h3, ofBits_half, ofBits_tiny, ofBits_neg_tiny]
  rfl

/-- The second coordinate of a corner in a frame. -/
theorem framed_v (B : Fin 1000 → Wide.Box)
    (h0 : ∀ a, (W main_v8 : Vec Ideal S1000x5 .f32) (ix2 a 0) = (B a).x)
    (h1 : ∀ a, (W main_v8 : Vec Ideal S1000x5 .f32) (ix2 a 1) = (B a).y)
    (h4 : ∀ a, Ideal.cos ((W main_v8 : Vec Ideal S1000x5 .f32) (ix2 a 4)) = (B a).c)
    (h5 : ∀ a, Ideal.sin ((W main_v8 : Vec Ideal S1000x5 .f32) (ix2 a 4)) = (B a).s)
    (hx : ∀ a k, (W main_v44 : Vec Ideal S1000x4 .f32) (ix2 a k) = (B a).px k)
    (hy : ∀ a k, (W main_v51 : Vec Ideal S1000x4 .f32) (ix2 a k) = (B a).py k)
    (a b : Fin 1000) (k : Fin 4) :
    (framed W main_v89 : Vec Ideal S1000x1000x4 .f32) (ix3 a b k) = (B b).v ((B a).px k) ((B a).py k) := by
  unfold framed hostOps0_8 hostOps0_7 hostOps0_6 hostOps0_5; after_reads_at
  simp only [h0, h1, h4, h5, hx, hy, ofBits_half, ofBits_tiny, ofBits_neg_tiny]
  rfl

/-- The second step of an edge in a frame, guarded. -/
theorem framed_step (B : Fin 1000 → Wide.Box)
    (h0 : ∀ a, (W main_v8 : Vec Ideal S1000x5 .f32) (ix2 a 0) = (B a).x)
    (h1 : ∀ a, (W main_v8 : Vec Ideal S1000x5 .f32) (ix2 a 1) = (B a).y)
    (h4 : ∀ a, Ideal.cos ((W main_v8 : Vec Ideal S1000x5 .f32) (ix2 a 4)) = (B a).c)
    (h5 : ∀ a, Ideal.sin ((W main_v8 : Vec Ideal S1000x5 .f32) (ix2 a 4)) = (B a).s)
    (hx : ∀ a k, (W main_v44 : Vec Ideal S1000x4 .f32) (ix2 a k) = (B a).px k)
    (hy : ∀ a k, (W main_v51 : Vec Ideal S1000x4 .f32) (ix2 a k) = (B a).py k)
    (hx' : ∀ a k, (W main_v52 : Vec Ideal S1000x4 .f32) (ix2 a k) = (B a).px (k + 1))
    (hy' : ∀ a k, (W main_v53 : Vec Ideal S1000x4 .f32) (ix2 a k) = (B a).py (k + 1))
    (a b : Fin 1000) (k : Fin 4) :
    (framed W main_v141 : Vec Ideal S1000x1000x4 .f32) (ix3 a b k) = guard ((B b).v ((B a).px (k + 1)) ((B a).py (k + 1)) - (B b).v ((B a).px k) ((B a).py k)) := by
  unfold framed hostOps0_8 hostOps0_7 hostOps0_6 hostOps0_5; after_reads_at
  simp only [h0, h1, h4, h5, hx, hy, hx', hy', ofBits_half, ofBits_tiny, ofBits_neg_tiny]
  rfl

/-- Where an edge has entered the first slab. -/
theorem framed_enter (B : Fin 1000 → Wide.Box)
    (h0 : ∀ a, (W main_v8 : Vec Ideal S1000x5 .f32) (ix2 a 0) = (B a).x)
    (h1 : ∀ a, (W main_v8 : Vec Ideal S1000x5 .f32) (ix2 a 1) = (B a).y)
    (h2 : ∀ a, (W main_v8 : Vec Ideal S1000x5 .f32) (ix2 a 2) = (B a).w)
    (h4 : ∀ a, Ideal.cos ((W main_v8 : Vec Ideal S1000x5 .f32) (ix2 a 4)) = (B a).c)
    (h5 : ∀ a, Ideal.sin ((W main_v8 : Vec Ideal S1000x5 .f32) (ix2 a 4)) = (B a).s)
    (hx : ∀ a k, (W main_v44 : Vec Ideal S1000x4 .f32) (ix2 a k) = (B a).px k)
    (hy : ∀ a k, (W main_v51 : Vec Ideal S1000x4 .f32) (ix2 a k) = (B a).py k)
    (hx' : ∀ a k, (W main_v52 : Vec Ideal S1000x4 .f32) (ix2 a k) = (B a).px (k + 1))
    (hy' : ∀ a k, (W main_v53 : Vec Ideal S1000x4 .f32) (ix2 a k) = (B a).py (k + 1))
    (a b : Fin 1000) (k : Fin 4) :
    (framed W main_v130 : Vec Ideal S1000x1000x4 .f32) (ix3 a b k) = max 0 (enter (half (B b).w) ((B b).u ((B a).px k) ((B a).py k)) ((B b).u ((B a).px (k + 1)) ((B a).py (k + 1)))) := by
  unfold framed hostOps0_8 hostOps0_7 hostOps0_6 hostOps0_5; after_reads_at
  simp only [h0, h1, h2, h4, h5, hx, hy, hx', hy', ofBits_half, ofBits_tiny, ofBits_neg_tiny]
  rfl

/-- Where an edge leaves the first slab. -/
theorem framed_leave (B : Fin 1000 → Wide.Box)
    (h0 : ∀ a, (W main_v8 : Vec Ideal S1000x5 .f32) (ix2 a 0) = (B a).x)
    (h1 : ∀ a, (W main_v8 : Vec Ideal S1000x5 .f32) (ix2 a 1) = (B a).y)
    (h2 : ∀ a, (W main_v8 : Vec Ideal S1000x5 .f32) (ix2 a 2) = (B a).w)
    (h4 : ∀ a, Ideal.cos ((W main_v8 : Vec Ideal S1000x5 .f32) (ix2 a 4)) = (B a).c)
    (h5 : ∀ a, Ideal.sin ((W main_v8 : Vec Ideal S1000x5 .f32) (ix2 a 4)) = (B a).s)
    (hx : ∀ a k, (W main_v44 : Vec Ideal S1000x4 .f32) (ix2 a k) = (B a).px k)
    (hy : ∀ a k, (W main_v51 : Vec Ideal S1000x4 .f32) (ix2 a k) = (B a).py k)
    (hx' : ∀ a k, (W main_v52 : Vec Ideal S1000x4 .f32) (ix2 a k) = (B a).px (k + 1))
    (hy' : ∀ a k, (W main_v53 : Vec Ideal S1000x4 .f32) (ix2 a k) = (B a).py (k + 1))
    (a b : Fin 1000) (k : Fin 4) :
    (framed W main_v133 : Vec Ideal S1000x1000x4 .f32) (ix3 a b k) = min 1 (leave (half (B b).w) ((B b).u ((B a).px k) ((B a).py k)) ((B b).u ((B a).px (k + 1)) ((B a).py (k + 1)))) := by
  unfold framed hostOps0_8 hostOps0_7 hostOps0_6 hostOps0_5; after_reads_at
  simp only [h0, h1, h2, h4, h5, hx, hy, hx', hy', ofBits_half, ofBits_tiny, ofBits_neg_tiny]
  rfl

/-- The part of the first box's boundary integral that runs inside the second box. -/
theorem swept_entry_ref (B : Fin 1000 → Wide.Box)
    (h0 : ∀ a, (W main_v8 : Vec Ideal S1000x5 .f32) (ix2 a 0) = (B a).x)
    (h1 : ∀ a, (W main_v8 : Vec Ideal S1000x5 .f32) (ix2 a 1) = (B a).y)
    (h2 : ∀ a, (W main_v8 : Vec Ideal S1000x5 .f32) (ix2 a 2) = (B a).w)
    (h3 : ∀ a, (W main_v8 : Vec Ideal S1000x5 .f32) (ix2 a 3) = (B a).h)
    (h4 : ∀ a, Ideal.cos ((W main_v8 : Vec Ideal S1000x5 .f32) (ix2 a 4)) = (B a).c)
    (h5 : ∀ a, Ideal.sin ((W main_v8 : Vec Ideal S1000x5 .f32) (ix2 a 4)) = (B a).s)
    (hx : ∀ a k, (W main_v44 : Vec Ideal S1000x4 .f32) (ix2 a k) = (B a).px k)
    (hy : ∀ a k, (W main_v51 : Vec Ideal S1000x4 .f32) (ix2 a k) = (B a).py k)
    (hx' : ∀ a k, (W main_v52 : Vec Ideal S1000x4 .f32) (ix2 a k) = (B a).px (k + 1))
    (hy' : ∀ a k, (W main_v53 : Vec Ideal S1000x4 .f32) (ix2 a k) = (B a).py (k + 1))
    (a b : Fin 1000) :
    (StableHlo.after hostOps0_9 (framed W) main_v164 : Vec Ideal S1000x1000 .f32) (ix2 a b) =
      swept (B a) (B b) := by
  have k2 := fun b => framed_half W B h3 b
  have k3 := fun a b k => framed_v W B h0 h1 h4 h5 hx hy a b k
  have k4 := fun a b k => framed_step W B h0 h1 h4 h5 hx hy hx' hy' a b k
  have k5 := fun a b k => framed_enter W B h0 h1 h2 h4 h5 hx hy hx' hy' a b k
  have k6 := fun a b k => framed_leave W B h0 h1 h2 h4 h5 hx hy hx' hy' a b k
  rw [← keep_v8 W] at h2 h3
  rw [← keep_v44 W] at hx
  rw [← keep_v51 W] at hy
  rw [← keep_v52 W] at hx'
  rw [← keep_v53 W] at hy'
  generalize framed W = W' at *
  unfold hostOps0_9
  after_reads_at
  simp only [hx, hy, hx', hy', k2, k3, k4, k5, k6,
    ofBits_half]
  rfl

/-- The overlap area from the two boundary integrals. -/
theorem overlap_area (W' : Valuation τ sig (Elt Ideal)) (S : Fin 1000 → Fin 1000 → EReal)
    (hS : ∀ a b, (StableHlo.after hostOps0_9 W' main_v164 : Vec Ideal S1000x1000 .f32) (ix2 a b) = S a b)
    (a b : Fin 1000) :
    (StableHlo.after hostOps0_9 W' main_v167 : Vec Ideal S1000x1000 .f32) (ix2 a b) =
      max (S a b + S b a) (-(S a b + S b a)) := by
  rw [← hS, ← hS]
  unfold hostOps0_9; after_reads_at
  first | done | rfl

/-- The area of the union. -/
theorem overlap_union (W' : Valuation τ sig (Elt Ideal)) (w h : Fin 1000 → EReal) (A : Fin 1000 → Fin 1000 → EReal)
    (hw : ∀ a, (W' main_v8 : Vec Ideal S1000x5 .f32) (ix2 a 2) = w a)
    (hh : ∀ a, (W' main_v8 : Vec Ideal S1000x5 .f32) (ix2 a 3) = h a)
    (hA : ∀ a b, (StableHlo.after hostOps0_9 W' main_v167 : Vec Ideal S1000x1000 .f32) (ix2 a b) = A a b)
    (a b : Fin 1000) :
    (StableHlo.after hostOps0_9 W' main_v180 : Vec Ideal S1000x1000 .f32) (ix2 a b) =
      w a * h a + w b * h b - A a b + Ideal.ofBits .f32 814313567#32 := by
  rw [← hA, ← hw, ← hw, ← hh, ← hh]
  unfold hostOps0_9; after_reads_at
  first | done | rfl

/-- The overlap is a quotient of what the stretch computed before. -/
theorem overlap_quotient (W' : Valuation τ sig (Elt Ideal)) (A U : Vec Ideal S1000x1000 .f32)
    (hA : (StableHlo.after hostOps0_9 W' main_v167 : Vec Ideal S1000x1000 .f32) = A)
    (hU : (StableHlo.after hostOps0_9 W' main_v180 : Vec Ideal S1000x1000 .f32) = U) :
    (StableHlo.after hostOps0_9 W' main_v184_0 : Vec Ideal S1000x1000 .f32) = (Host.divf A U : FVec Ideal S1000x1000 .f32) := by
  rw [← hA, ← hU]
  unfold hostOps0_9; after_reads_simp; rfl

/-- The matrix of overlaps at a pair of boxes, from the corners of the sorted boxes. -/
theorem overlap_entry_ref (B : Fin 1000 → Wide.Box)
    (h0 : ∀ a, (W main_v8 : Vec Ideal S1000x5 .f32) (ix2 a 0) = (B a).x)
    (h1 : ∀ a, (W main_v8 : Vec Ideal S1000x5 .f32) (ix2 a 1) = (B a).y)
    (h2 : ∀ a, (W main_v8 : Vec Ideal S1000x5 .f32) (ix2 a 2) = (B a).w)
    (h3 : ∀ a, (W main_v8 : Vec Ideal S1000x5 .f32) (ix2 a 3) = (B a).h)
    (h4 : ∀ a, Ideal.cos ((W main_v8 : Vec Ideal S1000x5 .f32) (ix2 a 4)) = (B a).c)
    (h5 : ∀ a, Ideal.sin ((W main_v8 : Vec Ideal S1000x5 .f32) (ix2 a 4)) = (B a).s)
    (hx : ∀ a k, (W main_v44 : Vec Ideal S1000x4 .f32) (ix2 a k) = (B a).px k)
    (hy : ∀ a k, (W main_v51 : Vec Ideal S1000x4 .f32) (ix2 a k) = (B a).py k)
    (hx' : ∀ a k, (W main_v52 : Vec Ideal S1000x4 .f32) (ix2 a k) = (B a).px (k + 1))
    (hy' : ∀ a k, (W main_v53 : Vec Ideal S1000x4 .f32) (ix2 a k) = (B a).py (k + 1))
    (a b : Fin 1000) :
    (StableHlo.after hostOps0_9 (framed W) main_v184_0 : Vec Ideal S1000x1000 .f32) (ix2 a b) =
      Wide.ratio (B a) (B b) (swept (B a) (B b) + swept (B b) (B a)) := by
  have hA := overlap_area (framed W) _ (fun a b => swept_entry_ref W B h0 h1 h2 h3 h4 h5 hx hy hx' hy' a b)
  have hU := overlap_union (framed W) (fun a => ((B a).w : EReal)) (fun a => ((B a).h : EReal)) _
    (fun a => (congrFun (keep_v8 W) _).trans (h2 a)) (fun a => (congrFun (keep_v8 W) _).trans (h3 a)) hA a b
  rw [overlap_quotient (framed W) _ _ rfl rfl]
  refine (congrArg₂ Ideal.div (hA a b) hU).trans ?_
  simp only [ofBits_slack]
  rfl

end Cert.Value
end
-- ==== Proof.Value.SortR.lean ====
module
public import proofs.«01_k».proof.Proof.Gen.ReferenceIdeal.Run
public import proofs.«01_k».proof.Proof.Value.SortK
public import Idealize.ShloMosaic.Lib.Pointwise
public import proofs.«01_k».proof.Proof.Math.Keep
@[expose] public section
set_option maxRecDepth 16384
set_option maxHeartbeats 4000000

/-!
# The reference's two sorts
-/

open Idealize.ShloMosaic Idealize.ShloMosaic.TcCoe
open Cert Cert.ReferenceIdeal Cert.ReferenceIdeal.Gen

namespace Cert.Value

theorem ofFin_ix1 {n : Nat} (k : Fin n) : Shape.Idx.ofFin k = ix1 k := by
  funext a
  have : a = 0 := Subsingleton.elim _ _
  subst this
  exact Fin.ext rfl

/-- The second result of a stable sort of a pair of vectors, at a place. -/
theorem sort2_snd {α β κ : Type} [LinearOrder κ] {n : Nat} (cmp : α × β → α × β → BitVec 1) (x : (⟨1, ![n]⟩ : Shape).Idx → α)
    (y : (⟨1, ![n]⟩ : Shape).Idx → β) (key : Fin n → κ)
    (h : ∀ a b : Fin n, (cmp (x (ix1 a), y (ix1 a)) (x (ix1 b), y (ix1 b)) == 1#1) = decide (key a < key b)) (i : Fin n) :
    (Host.sort2 ⟨1, ![n]⟩ 0 cmp x y).2 (ix1 i) = y (ix1 (Rank.place key i)) := by
  unfold Host.sort2
  simp only [ofFin_ix1, Shape.Idx.along_rank1, h, Rank.sortedFrom_key, Fin.zero_eta, ix1_0,
    show (0 < (⟨1, ![n]⟩ : Shape).rank) from Nat.one_pos, dite_true]
  simp [ofFin_ix1, h, Rank.sortedFrom_key]

/-- What the reference's comparison does to a score first changes nothing. -/
theorem score_kept (a c : EReal) :
    Scalar.select (FloatOps.cmpf (F := Ideal) (φ := .f32) .une a a) c
      (Scalar.select (FloatOps.cmpf (F := Ideal) (φ := .f32) .oeq a (FloatOps.ofBits (F := Ideal) .f32 0#32))
        (FloatOps.ofBits (F := Ideal) .f32 0#32 : EReal) a) = a := by
  have e1 : FloatOps.cmpf (F := Ideal) (φ := .f32) .une a a = BitVec.ofBool (decide (a ≠ a)) := rfl
  have e2 : FloatOps.cmpf (F := Ideal) (φ := .f32) .oeq a (FloatOps.ofBits (F := Ideal) .f32 0#32) =
    BitVec.ofBool (decide (a = FloatOps.ofBits (F := Ideal) .f32 0#32)) := rfl
  rw [e1, e2, select_bit, select_bit]
  rw [if_neg (by simp)]
  split
  · next h => exact (of_decide_eq_true h).symm
  · rfl

/-- The comparison of two scores in the reference's sort. -/
theorem compare_scores (a b : EReal) (p q : BitVec 32) :
    (comparator_f32_i32_d0 (F := Ideal) (a, p) (b, q) == 1#1) = decide (a < b) := by
  have e : comparator_f32_i32_d0 (F := Ideal) (a, p) (b, q) = BitVec.ofBool (decide (a < b)) := by
    unfold comparator_f32_i32_d0
    exact (congrArg₂ (fun x y : EReal => BitVec.ofBool (decide (x < y))) (score_kept a _) (score_kept b _))
  rw [e]
  cases decide (a < b) <;> rfl

/-- The comparison of two keys in the reference's last sort. -/
theorem compare_keys (a b : Bool) (p q : BitVec 32) :
    (comparator_i32_i32_d0 (BitVec.setWidth 32 (BitVec.ofBool a), p) (BitVec.setWidth 32 (BitVec.ofBool b), q) == 1#1) = decide (a.toNat < b.toNat) := by
  cases a <;> cases b <;> rfl

end Cert.Value
end
-- ==== Proof.Value.LoopR.lean ====
module
public import proofs.«01_k».proof.Proof.Value.SortR
public import proofs.«01_k».proof.Proof.Value.KeepK
public import Idealize.ShloMosaic.Lib.DynamicIndex
@[expose] public section
set_option maxRecDepth 16384
set_option maxHeartbeats 400000

/-!
# The reference's suppression loop
-/

open Idealize.ShloMosaic Idealize.ShloMosaic.TcCoe
open Cert Cert.ReferenceIdeal Cert.ReferenceIdeal.Gen Cert.ReferenceIdeal.Value

namespace Cert.Value

/-- One trip of the suppression on vectors, at a column. -/
theorem step_read (u : FVec Ideal S1000x1000 .f32) (v1 : IVec S1000 32) (v4 : IVec S1000 1) (w : IVec S_ 32)
    (st0 : Fin 2 → Int) (st1 : Fin 1 → Int) (k : Fin 1000) (o sup : Fin 1000 → Bool)
    (hst0 : ∀ a, st0 a = ((![k.val, 0] a : Nat) : Int)) (hst1 : ∀ a, st1 a = ((![k.val] a : Nat) : Int))
    (h0 : ∀ b, u (ix2 k b) > thr ↔ o b = true)
    (h1 : ∀ c : Fin 1000, v1 (ix1 c) = BitVec.ofNat 32 c.val)
    (h3 : w = fun _ => BitVec.ofNat 32 k.val)
    (h4 : ∀ c, v4 (ix1 c) = BitVec.ofBool (sup c)) (c : Fin 1000) :
    ori v4 (andi (andi (cmpf .ogt (shapeCast S1000 (Host.dynamicSlice S1x1000 u st0 sliceFits_S1000x1000_S1x1000) shapeCasts_S1x1000_S1000)
        (broadcastInDim S1000 ![] bcast_S_S1000 (constant (F := Ideal) S_ .f32 0x3F333333#32)))
        (cmpi .sgt v1 (broadcastInDim S1000 ![] bcast_S_S1000 w)))
        (broadcastInDim S1000 ![] bcast_S_S1000 (noti (shapeCast S_ (Host.dynamicSlice S1 v4 st1 sliceFits_S1000_S1) shapeCasts_S1_S_)))) (ix1 c) =
      BitVec.ofBool (sup c || (o c && decide (k.val < c.val) && !sup k)) := by
  subst h3
  rw [Host.dynamicSlice_eq_extractStridedSlice S1x1000 u st0 ![k.val, 0] _
      ⟨rfl, fun a => by fin_cases a <;> simp <;> first | omega | exact Nat.le_refl _⟩ hst0,
    Host.dynamicSlice_eq_extractStridedSlice S1 v4 st1 ![k.val] _
      ⟨rfl, fun a => by fin_cases a; simp⟩ hst1]
  pointwise
  have hs : IntOp.cmpi .sgt (BitVec.ofNat 32 c.val) (BitVec.ofNat 32 k.val) = BitVec.ofBool (decide (k.val < c.val)) :=
    sgt_bit _ _ (by omega) (by omega)
  have ho : decide (Ideal.ofBits FTy.f32 1060320051#32 < u (ix2 k c)) = o c := by
    rw [Bool.eq_iff_iff, decide_eq_true_eq]; exact h0 c
  have hn : ∀ b : Bool, ~~~BitVec.ofBool b = BitVec.ofBool (!b) := by decide
  rw [h1, h4, h4, hs, ho, hn, and_bit, and_bit, or_bit]

/-- One trip of the reference's loop at a column. -/
theorem step_entry (V0 : Valuation τ sig (Elt Ideal)) (k : Fin 1000) (o : Fin 1000 → Bool) (sup : Fin 1000 → Bool)
    (u : Vec Ideal S1000x1000 .f32) (hu : (V0 main_v184_0 : Vec Ideal S1000x1000 .f32) = u)
    (h0 : ∀ b, u (ix2 k b) > thr ↔ o b = true)
    (h1 : ∀ c : Fin 1000, (V0 main_v184_1 : Vec Ideal S1000 .i32) (ix1 c) = BitVec.ofNat 32 c.val)
    (h3 : (V0 main_v184_3 : Vec Ideal S_ .i32) = fun _ => BitVec.ofNat 32 k.val)
    (h4 : ∀ c, (V0 main_v184_4 : Vec Ideal S1000 .i1) (ix1 c) = BitVec.ofBool (sup c)) (c : Fin 1000) :
    (step_main_v184_4 V0 : Vec Ideal S1000 .i1) (ix1 c) = BitVec.ofBool (sup c || (o c && decide (k.val < c.val) && !sup k)) := by
  unfold step_main_v184_4 res_main_while0b_v198
  rw [h3, hu]
  have hn : (BitVec.ofNat 32 k.val).toInt = (k.val : Int) := toInt_small _ (by omega)
  have hk : ∀ x, Scalar.select (IntOp.cmpi .slt (BitVec.ofNat 32 k.val) 0#32) x (BitVec.ofNat 32 k.val) = BitVec.ofNat 32 k.val := by
    intro x
    rw [show IntOp.cmpi .slt (BitVec.ofNat 32 k.val) 0#32 = BitVec.ofBool (decide (k.val < 0)) from slt_bit _ 0 (by omega) (by omega), select_bit, if_neg (by simp)]
  refine step_read u _ _ _ _ _ k o sup ?_ ?_ h0 h1 rfl h4 c
  · intro a
    fin_cases a
    · exact (congrArg BitVec.toInt (hk _)).trans hn
    · rfl
  · intro a
    fin_cases a
    exact (congrArg BitVec.toInt (hk _)).trans hn

/-- The loop's carried buffers after `k` trips. -/
theorem loop_entry (V0 : Valuation τ sig (Elt Ideal)) (o : Fin 1000 → Fin 1000 → Bool)
    (u : Vec Ideal S1000x1000 .f32) (hu : (V0 main_v184_0 : Vec Ideal S1000x1000 .f32) = u)
    (h0 : ∀ a b, u (ix2 a b) > thr ↔ o a b = true)
    (h1 : ∀ c : Fin 1000, (V0 main_v184_1 : Vec Ideal S1000 .i32) (ix1 c) = BitVec.ofNat 32 c.val)
    (h3 : (V0 main_v184_3 : Vec Ideal S_ .i32) = fun _ => BitVec.ofNat 32 0)
    (h4 : ∀ c, (V0 main_v184_4 : Vec Ideal S1000 .i1) (ix1 c) = BitVec.ofBool false) (k : Nat) (hk : k ≤ 1000) :
    (STEP^[k] V0 main_v184_0 : Vec Ideal S1000x1000 .f32) = u ∧
    (STEP^[k] V0 main_v184_1 : Vec Ideal S1000 .i32) = V0 main_v184_1 ∧
    (STEP^[k] V0 main_v184_3 : Vec Ideal S_ .i32) = (fun _ => BitVec.ofNat 32 k) ∧
    ∀ c, (STEP^[k] V0 main_v184_4 : Vec Ideal S1000 .i1) (ix1 c) = BitVec.ofBool (Keep.supp o k c) := by
  induction k with
  | zero => exact ⟨hu, rfl, h3, h4⟩
  | succ k ih =>
    obtain ⟨a0, a1, a3, a4⟩ := ih (by omega)
    rw [Function.iterate_succ_apply']
    refine ⟨(STEP_main_v184_0 _).trans a0, (STEP_main_v184_1 _).trans a1, (STEP_main_v184_3 _).trans ?_, fun c => (congrFun (STEP_main_v184_4 _) _).trans ?_⟩
    · unfold step_main_v184_3
      rw [a3]
      funext i
      show BitVec.ofNat 32 k + 1#32 = _
      rw [← BitVec.ofNat_add]
    · have hkk : k < 1000 := by omega
      rw [step_entry _ ⟨k, hkk⟩ (o ⟨k, hkk⟩) (Keep.supp o k) u a0 (h0 ⟨k, hkk⟩) (fun c => (congrFun a1 _).trans (h1 c)) a3 a4 c]
      exact congrArg BitVec.ofBool (Keep.supp_succ o ⟨k, hkk⟩ c).symm

/-- The order of the boxes by score, as the reference sorts it. -/
theorem order_read (v : FVec Ideal S1000 .f32) (g : Fin 1000 → EReal) (hg : ∀ c, v (ix1 c) = g c) (i : Fin 1000) :
    (Host.sort2 S1000 0 (comparator_f32_i32_d0 (F := Ideal)) (Host.negf v) (iotaInDim S1000 32 0)).2 (ix1 i) =
      BitVec.ofNat 32 (Rank.place (byScore g) i).val := by
  refine (sort2_snd (n := 1000) _ _ _ (byScore g) (fun a b => ?_) i).trans rfl
  refine (compare_scores _ _ _ _).trans (decide_eq_decide.mpr ?_)
  show -(v (ix1 a) : EReal) < -(v (ix1 b) : EReal) ↔ g b < g a
  rw [hg, hg, EReal.neg_lt_neg_iff]

/-- The reference's last sort on vectors. -/
theorem out_read (v4 : IVec S1000 1) (p : IVec S1000 32) (s : Fin 1000 → Bool) (h4 : ∀ c, v4 (ix1 c) = BitVec.ofBool (s c)) (i : Fin 1000) :
    (Host.sort2 S1000 0 comparator_i32_i32_d0 (extui 32 v4 natLt_1_32)
      (select v4 (broadcastInDim S1000 ![] bcast_S_S1000 (id (constantI S_ 32 4294967295#32))) p)).2 (ix1 i) =
      if s (Rank.place (Keep.key s) i) then 4294967295#32 else p (ix1 (Rank.place (Keep.key s) i)) := by
  refine (sort2_snd (n := 1000) _ _ _ (Keep.key s) (fun a b => ?_) i).trans ?_
  · have e : ∀ c, extui 32 v4 natLt_1_32 (ix1 c) = BitVec.setWidth 32 (BitVec.ofBool (s c)) := fun c => congrArg _ (h4 c)
    rw [e, e]
    exact compare_keys _ _ _ _
  · pointwise
    rw [h4, select_bit]
    rfl

/-- One result of the reference. -/
theorem out_entry (V0 : Valuation τ sig (Elt Ideal)) (s : Fin 1000 → Bool) (g : Fin 1000 → EReal)
    (h4 : ∀ c, (V0 main_v184_4 : Vec Ideal S1000 .i1) (ix1 c) = BitVec.ofBool (s c))
    (hg : ∀ c, (V0 main_arg1 : Vec Ideal S1000 .f32) (ix1 c) = g c) (i : Fin 1000) :
    (out_main_v189_1 V0 : Vec Ideal S1000 .i32) (ix1 i) =
      if s (Rank.place (Keep.key s) i) then 4294967295#32
      else BitVec.ofNat 32 (Rank.place (byScore g) (Rank.place (Keep.key s) i)).val := by
  unfold out_main_v189_1
  rw [← order_read _ g hg]
  exact out_read _ _ s h4 i

end Cert.Value
end
-- ==== Proof.Value.PrefixR.lean ====
module
public import proofs.«01_k».proof.Proof.Value.OverlapR
public import proofs.«01_k».proof.Proof.Value.LoopR
public import Idealize.ShloMosaic.Lib.Routing.Ops
@[expose] public section
set_option maxRecDepth 16384
set_option maxHeartbeats 1000000

/-!
# The reference before its loop

The sorted boxes, their corners, and the overlaps the loop reads.
-/

open Idealize.ShloMosaic Idealize.ShloMosaic.TcCoe
open Cert Cert.ReferenceIdeal Cert.ReferenceIdeal.Gen
open Cert.Overlap

namespace Cert.Value

/-- Gathering rows by the sorted indices reads the box at each sorted index. -/
theorem gather_entry (x : FVec Ideal S1000x5 .f32) (v : IVec S1000 32) (σ : Fin 1000 → Fin 1000)
    (hv : ∀ a, v (ix1 a) = BitVec.ofNat 32 (σ a).val) (a : Fin 1000) (k : Fin 5) :
    Host.gather gather_S1000x5_S1000x1_S1000x5_1_0_n_n_0_1_15 x
      (broadcastInDim S1000x1 ![0] bcast_S1000_S1000x1_0
        (select (cmpi .slt v (broadcastInDim S1000 ![] bcast_S_S1000 (constantI S_ 32 0#32)))
          (addi v (broadcastInDim S1000 ![] bcast_S_S1000 (constantI S_ 32 1000#32))) v)) (ix2 a k) = x (ix2 (σ a) k) := by
  refine Routing.gather_row (nb := 1000) (B := 5) (n := 1000) gather_S1000x5_S1000x1_S1000x5_1_0_n_n_0_1_15 rfl rfl rfl rfl rfl x _ a k (σ a) ?_ (by norm_num)
  pointwise
  rw [hv]
  rw [show IntOp.cmpi .slt (BitVec.ofNat 32 (σ a).val) 0#32 = BitVec.ofBool (decide ((σ a).val < 0)) from slt_bit _ 0 (by omega) (by omega), select_bit, if_neg (by simp)]

/-- The literal one. -/
theorem one_coe : Ideal.ofBits .f32 1065353216#32 = ((1 : ℝ) : EReal) := by
  simp [Ideal.ofBits, Ideal.ieee, -EReal.coe_mul]; norm_num

variable (W : Valuation τ sig (Elt Ideal))

/-- The stretch that makes the sorted boxes and their corners, then the two that turn the corners by one. -/
noncomputable abbrev corners : Valuation τ sig (Elt Ideal) := StableHlo.after hostOps0_4 (StableHlo.after hostOps0_3 (StableHlo.after hostOps0_2 W))

/-- The sorted boxes. -/
theorem corners_v8 (x : FVec Ideal S1000x5 .f32) (v : IVec S1000 32) (σ : Fin 1000 → Fin 1000)
    (hx : (W main_arg0 : Vec Ideal S1000x5 .f32) = x) (hw : (W main_v1 : Vec Ideal S1000 .i32) = v)
    (hv : ∀ a, v (ix1 a) = BitVec.ofNat 32 (σ a).val) (a : Fin 1000) (k : Fin 5) :
    (corners W main_v8 : Vec Ideal S1000x5 .f32) (ix2 a k) = x (ix2 (σ a) k) := by
  have e : (corners W main_v8 : Vec Ideal S1000x5 .f32) = Host.gather gather_S1000x5_S1000x1_S1000x5_1_0_n_n_0_1_15 x
      (broadcastInDim S1000x1 ![0] bcast_S1000_S1000x1_0
        (select (cmpi .slt v (broadcastInDim S1000 ![] bcast_S_S1000 (constantI S_ 32 0#32)))
          (addi v (broadcastInDim S1000 ![] bcast_S_S1000 (constantI S_ 32 1000#32))) v)) := by
    rw [← hx, ← hw]
    unfold corners hostOps0_4 hostOps0_3 hostOps0_2; after_reads_simp
  rw [e]
  exact gather_entry x v σ hv a k

/-- The first coordinates of the corners. -/
theorem corners_v44 (x : FVec Ideal S1000x5 .f32) (v : IVec S1000 32) (σ : Fin 1000 → Fin 1000)
    (hx : (W main_arg0 : Vec Ideal S1000x5 .f32) = x) (hw : (W main_v1 : Vec Ideal S1000 .i32) = v)
    (hv : ∀ a, v (ix1 a) = BitVec.ofNat 32 (σ a).val)
    (h0 : ∀ k, (W main_cst : Vec Ideal S4 .f32) (ix1 k) = ((sx k : ℝ) : EReal))
    (h1 : ∀ k, (W main_cst_0 : Vec Ideal S4 .f32) (ix1 k) = ((sy k : ℝ) : EReal))
    (B : Fin 1000 → Wide.Box) (bx : ∀ a, x (ix2 a 0) = (B a).x) (bw : ∀ a, x (ix2 a 2) = (B a).w)
    (bh : ∀ a, x (ix2 a 3) = (B a).h) (bc : ∀ a, Ideal.cos (x (ix2 a 4)) = (B a).c) (bs : ∀ a, Ideal.sin (x (ix2 a 4)) = (B a).s) (a : Fin 1000) (k : Fin 4) :
    (corners W main_v44 : Vec Ideal S1000x4 .f32) (ix2 a k) = (B (σ a)).px k := by
  have e := gather_entry x v σ hv a
  unfold corners hostOps0_4 hostOps0_3 hostOps0_2; after_reads_at
  rw [hx, hw]
  simp only [e, bx, bw, bh, bc, bs, h0, h1, ofBits_half]
  rfl

/-- The second coordinates of the corners. -/
theorem corners_v51 (x : FVec Ideal S1000x5 .f32) (v : IVec S1000 32) (σ : Fin 1000 → Fin 1000)
    (hx : (W main_arg0 : Vec Ideal S1000x5 .f32) = x) (hw : (W main_v1 : Vec Ideal S1000 .i32) = v)
    (hv : ∀ a, v (ix1 a) = BitVec.ofNat 32 (σ a).val)
    (h0 : ∀ k, (W main_cst : Vec Ideal S4 .f32) (ix1 k) = ((sx k : ℝ) : EReal))
    (h1 : ∀ k, (W main_cst_0 : Vec Ideal S4 .f32) (ix1 k) = ((sy k : ℝ) : EReal))
    (B : Fin 1000 → Wide.Box) (bx : ∀ a, x (ix2 a 1) = (B a).y) (bw : ∀ a, x (ix2 a 2) = (B a).w)
    (bh : ∀ a, x (ix2 a 3) = (B a).h) (bc : ∀ a, Ideal.cos (x (ix2 a 4)) = (B a).c) (bs : ∀ a, Ideal.sin (x (ix2 a 4)) = (B a).s) (a : Fin 1000) (k : Fin 4) :
    (corners W main_v51 : Vec Ideal S1000x4 .f32) (ix2 a k) = (B (σ a)).py k := by
  have e := gather_entry x v σ hv a
  unfold corners hostOps0_4 hostOps0_3 hostOps0_2; after_reads_at
  rw [hx, hw]
  simp only [e, bx, bw, bh, bc, bs, h0, h1, ofBits_half]
  rfl

/-- Turning the corners by one, on vectors. -/
theorem turn_read (x : FVec Ideal S1000x4 .f32) (a : Fin 1000) (k : Fin 4) :
    concatenate S1000x4 1 [⟨S1000x3, extractStridedSlice S1000x3 ![0, 1] x slices_S1000x4_S1000x3_0_1⟩,
      ⟨S1000x1, extractStridedSlice S1000x1 ![0, 0] x slices_S1000x4_S1000x1_0_0⟩] concatenates_S1000x3_S1000x1_S1000x4_d1 (ix2 a k) =
      x (ix2 a (k + 1)) := by
  fin_cases k <;> pointwise <;> rfl

/-- The stretch that turns the first coordinates. -/
theorem turn_v52 : (StableHlo.after hostOps0_3 W main_v52 : Vec Ideal S1000x4 .f32) =
    concatenate S1000x4 1 [⟨S1000x3, extractStridedSlice S1000x3 ![0, 1] (W main_v44 : Vec Ideal S1000x4 .f32) slices_S1000x4_S1000x3_0_1⟩,
      ⟨S1000x1, extractStridedSlice S1000x1 ![0, 0] (W main_v44 : Vec Ideal S1000x4 .f32) slices_S1000x4_S1000x1_0_0⟩] concatenates_S1000x3_S1000x1_S1000x4_d1 := by
  unfold hostOps0_3; after_reads_simp; first | done | rfl

/-- The stretch that turns the second coordinates. -/
theorem turn_v53 : (StableHlo.after hostOps0_4 W main_v53 : Vec Ideal S1000x4 .f32) =
    concatenate S1000x4 1 [⟨S1000x3, extractStridedSlice S1000x3 ![0, 1] (W main_v51 : Vec Ideal S1000x4 .f32) slices_S1000x4_S1000x3_0_1⟩,
      ⟨S1000x1, extractStridedSlice S1000x1 ![0, 0] (W main_v51 : Vec Ideal S1000x4 .f32) slices_S1000x4_S1000x1_0_0⟩] concatenates_S1000x3_S1000x1_S1000x4_d1 := by
  unfold hostOps0_4; after_reads_simp; first | done | rfl

/-- A stretch that leaves a buffer. -/
theorem stay_3_v44 : (StableHlo.after hostOps0_3 W main_v44 : Vec Ideal S1000x4 .f32) = W main_v44 := by
  unfold hostOps0_3; after_reads_simp

/-- A stretch that leaves a buffer. -/
theorem stay_4_v44 : (StableHlo.after hostOps0_4 W main_v44 : Vec Ideal S1000x4 .f32) = W main_v44 := by
  unfold hostOps0_4; after_reads_simp

/-- A stretch that leaves a buffer. -/
theorem stay_4_v51 : (StableHlo.after hostOps0_4 W main_v51 : Vec Ideal S1000x4 .f32) = W main_v51 := by
  unfold hostOps0_4; after_reads_simp

/-- A stretch that leaves a buffer. -/
theorem stay_4_v52 : (StableHlo.after hostOps0_4 W main_v52 : Vec Ideal S1000x4 .f32) = W main_v52 := by
  unfold hostOps0_4; after_reads_simp

/-- The first coordinates of the next corners. -/
theorem corners_v52 (a : Fin 1000) (k : Fin 4) :
    (corners W main_v52 : Vec Ideal S1000x4 .f32) (ix2 a k) = (corners W main_v44 : Vec Ideal S1000x4 .f32) (ix2 a (k + 1)) := by
  unfold corners
  rw [stay_4_v52, stay_4_v44, turn_v52, stay_3_v44]
  exact turn_read _ a k

/-- The second coordinates of the next corners. -/
theorem corners_v53 (a : Fin 1000) (k : Fin 4) :
    (corners W main_v53 : Vec Ideal S1000x4 .f32) (ix2 a k) = (corners W main_v51 : Vec Ideal S1000x4 .f32) (ix2 a (k + 1)) := by
  unfold corners
  rw [turn_v53, stay_4_v51]
  exact turn_read _ a k

/-- The literal signs of the first half side. -/
theorem sign_x (k : Fin 4) : Ideal.ofBits .f32 (lit0 (S4.rowMajor (ix1 k))) = ((sx k : ℝ) : EReal) := by
  rw [show S4.rowMajor (ix1 k) = k from Fin.ext (Shape.rowMajor_val_one (ix1 k))]
  fin_cases k
  · exact one_coe
  · exact ofBits_neg_one
  · exact ofBits_neg_one
  · exact one_coe

/-- The literal signs of the second half side. -/
theorem sign_y (k : Fin 4) : Ideal.ofBits .f32 (lit1 (S4.rowMajor (ix1 k))) = ((sy k : ℝ) : EReal) := by
  rw [show S4.rowMajor (ix1 k) = k from Fin.ext (Shape.rowMajor_val_one (ix1 k))]
  fin_cases k
  · exact one_coe
  · exact one_coe
  · exact ofBits_neg_one
  · exact ofBits_neg_one

/-- The first two stretches: the signs of the corners, and the sorted indices. -/
noncomputable abbrev started : Valuation τ sig (Elt Ideal) := StableHlo.after hostOps0_1 (StableHlo.after hostOps0 W)

/-- The signs of the first half side, read. -/
theorem started_cst (k : Fin 4) : (started W main_cst : Vec Ideal S4 .f32) (ix1 k) = ((sx k : ℝ) : EReal) := by
  unfold started hostOps0_1 hostOps0; after_reads_at
  exact sign_x k

theorem started_cst_0 (k : Fin 4) : (started W main_cst_0 : Vec Ideal S4 .f32) (ix1 k) = ((sy k : ℝ) : EReal) := by
  unfold started hostOps0_1 hostOps0; after_reads_at
  exact sign_y k

theorem started_arg0 : (started W main_arg0 : Vec Ideal S1000x5 .f32) = W main_arg0 := by
  unfold started hostOps0_1 hostOps0; after_reads_simp

theorem started_v1 : (started W main_v1 : Vec Ideal S1000 .i32) =
    (Host.sort2 S1000 0 (comparator_f32_i32_d0 (F := Ideal)) (Host.negf (W main_arg1 : Vec Ideal S1000 .f32)) (iotaInDim S1000 32 0)).2 := by
  unfold started hostOps0_1 hostOps0; after_reads_simp; rfl

theorem last_v184_1 (c : Fin 1000) : (StableHlo.after hostOps0_9 W main_v184_1 : Vec Ideal S1000 .i32) (ix1 c) = BitVec.ofNat 32 c.val := by
  have e : (StableHlo.after hostOps0_9 W main_v184_1 : Vec Ideal S1000 .i32) = iotaInDim S1000 32 0 := by
    unfold hostOps0_9; after_reads_simp; rfl
  rw [e]; rfl

theorem last_v184_3 : (StableHlo.after hostOps0_9 W main_v184_3 : Vec Ideal S_ .i32) = fun _ => BitVec.ofNat 32 0 := by
  unfold hostOps0_9; after_reads_simp; rfl

theorem last_v184_4 (c : Fin 1000) : (StableHlo.after hostOps0_9 W main_v184_4 : Vec Ideal S1000 .i1) (ix1 c) = BitVec.ofBool false := by
  have e : (StableHlo.after hostOps0_9 W main_v184_4 : Vec Ideal S1000 .i1) = (broadcastInDim S1000 ![] bcast_S_S1000 (constantI S_ 1 0#1) : IVec S1000 1) := by
    unfold hostOps0_9; after_reads_simp; rfl
  rw [e]; rfl

end Cert.Value
end
-- ==== Proof.Value.ResultR.lean ====
module
public import proofs.«01_k».proof.Proof.Value.PrefixR
public import proofs.«01_k».proof.Proof.Value.LoopR
public import proofs.«01_k».proof.Proof.Value.Verdict
@[expose] public section
set_option maxRecDepth 16384
set_option maxHeartbeats 400000

/-!
# What the reference returns

The stretches before the loop, the loop, and the last sort, together.
-/

open Idealize.ShloMosaic Idealize.ShloMosaic.TcCoe
open Cert Cert.ReferenceIdeal Cert.ReferenceIdeal.Gen Cert.ReferenceIdeal.Value
open Cert.Overlap

namespace Cert.Value

variable (M : Valuation τ sig (Elt Ideal))

/-- What the loop starts from. -/
noncomputable abbrev before : Valuation τ sig (Elt Ideal) := StableHlo.after hostOps0_9 (framed (corners (started M)))

variable (x : FVec Ideal S1000x5 .f32) (g : FVec Ideal S1000 .f32) (B : Fin 1000 → Wide.Box)

/-- The overlaps the loop reads. -/
theorem before_overlap (hx : (M main_arg0 : Vec Ideal S1000x5 .f32) = x) (hg : (M main_arg1 : Vec Ideal S1000 .f32) = g)
    (bx : ∀ a, x (ix2 a 0) = (B a).x) (hy : ∀ a, x (ix2 a 1) = (B a).y) (bw : ∀ a, x (ix2 a 2) = (B a).w)
    (bh : ∀ a, x (ix2 a 3) = (B a).h) (bc : ∀ a, Ideal.cos (x (ix2 a 4)) = (B a).c) (bs : ∀ a, Ideal.sin (x (ix2 a 4)) = (B a).s) (a b : Fin 1000) :
    (before M main_v184_0 : Vec Ideal S1000x1000 .f32) (ix2 a b) =
      Wide.ratio (B (Rank.place (byScore fun k => g (ix1 k)) a)) (B (Rank.place (byScore fun k => g (ix1 k)) b))
        (Wide.swept (B (Rank.place (byScore fun k => g (ix1 k)) a)) (B (Rank.place (byScore fun k => g (ix1 k)) b)) +
          Wide.swept (B (Rank.place (byScore fun k => g (ix1 k)) b)) (B (Rank.place (byScore fun k => g (ix1 k)) a))) := by
  have e0 : (started M main_arg0 : Vec Ideal S1000x5 .f32) = x := (started_arg0 M).trans hx
  have hv : ∀ a, (started M main_v1 : Vec Ideal S1000 .i32) (ix1 a) = BitVec.ofNat 32 (Rank.place (byScore fun k => g (ix1 k)) a).val := fun a => by
    rw [started_v1, hg]; exact order_read g _ (fun _ => rfl) a
  generalize hσ : Rank.place (byScore fun k => g (ix1 k)) = σ at hv ⊢
  have h8 := corners_v8 (started M) x _ σ e0 rfl hv
  have h44 := corners_v44 (started M) x _ σ e0 rfl hv (started_cst M) (started_cst_0 M) B bx bw bh bc bs
  have h51 := corners_v51 (started M) x _ σ e0 rfl hv (started_cst M) (started_cst_0 M) B hy bw bh bc bs
  exact overlap_entry_ref (corners (started M)) (fun a => B (σ a)) (fun a => (h8 a 0).trans (bx _)) (fun a => (h8 a 1).trans (hy _))
    (fun a => (h8 a 2).trans (bw _)) (fun a => (h8 a 3).trans (bh _)) (fun a => (congrArg Ideal.cos (h8 a 4)).trans (bc _)) (fun a => (congrArg Ideal.sin (h8 a 4)).trans (bs _)) h44 h51
    (fun a k => (corners_v52 _ a k).trans (h44 a (k + 1))) (fun a k => (corners_v53 _ a k).trans (h51 a (k + 1))) a b

/-- The reference's result. -/
theorem result_ref (hx : (M main_arg0 : Vec Ideal S1000x5 .f32) = x) (hg : (M main_arg1 : Vec Ideal S1000 .f32) = g)
    (bx : ∀ a, x (ix2 a 0) = (B a).x) (hy : ∀ a, x (ix2 a 1) = (B a).y) (bw : ∀ a, x (ix2 a 2) = (B a).w)
    (bh : ∀ a, x (ix2 a 3) = (B a).h) (bc : ∀ a, Ideal.cos (x (ix2 a 4)) = (B a).c) (bs : ∀ a, Ideal.sin (x (ix2 a 4)) = (B a).s)
    (ha : (STEP^[1000] (before M) main_arg1 : Vec Ideal S1000 .f32) = g) (i : Fin 1000) :
    (out_main_v189_1 (STEP^[1000] (before M)) : Vec Ideal S1000 .i32) (ix1 i) = verdict B (fun k => g (ix1 k)) i := by
  refine out_entry (STEP^[1000] (before M)) (gone B fun k => g (ix1 k)) (fun k => g (ix1 k)) ?_ (fun k => congrFun ha _) i
  refine (loop_entry (before M) (over B fun k => g (ix1 k)) _ rfl (fun a b => ?_) (last_v184_1 _) (last_v184_3 _) (last_v184_4 _) 1000 le_rfl).2.2.2
  rw [before_overlap M x g B hx hg bx hy bw bh bc bs, over, decide_eq_true_eq]

end Cert.Value
end
-- ==== Proof.Math.Slice.lean ====
module
public import Mathlib.MeasureTheory.Measure.Lebesgue.Basic
public import Mathlib.Tactic.Linarith
@[expose] public section

/-!
# The length of a slice

A row of the plane meets an intersection of half planes in a segment, whose two ends lie on the
boundary lines of two of them.
-/

open MeasureTheory

namespace Cert.Area

variable {ι : Type} [Fintype ι]

/-- The sign of a number, zero at zero. -/
noncomputable def sgn (t : ℝ) : ℝ := if 0 < t then 1 else if t < 0 then -1 else 0

theorem sgn_of_pos {t : ℝ} (h : 0 < t) : sgn t = 1 := by rw [sgn, if_pos h]

theorem sgn_of_neg {t : ℝ} (h : t < 0) : sgn t = -1 := by rw [sgn, if_neg h.not_gt, if_pos h]

theorem sgn_zero : sgn 0 = 0 := by simp [sgn]

/-- A sign times a size is the number. -/
theorem abs_mul_sgn (t : ℝ) : |t| * sgn t = t := by
  rcases lt_trichotomy t 0 with h | h | h
  · rw [sgn_of_neg h, abs_of_neg h]; ring
  · rw [h]; simp
  · rw [sgn_of_pos h, abs_of_pos h]; ring

/-- The points of a row that satisfy `q` and all the half planes, the `i`-th of which ends at `z i`. -/
def slice (q : Prop) (a z : ι → ℝ) : Set ℝ := {x | q ∧ ∀ i, a i * (x - z i) ≤ 0}

/-- The length of a bounded slice is its right end less its left end, when no two half planes end
at the same point. -/
theorem slice_length (q : Prop) (a z : ι → ℝ) (M : ℝ) (hM : ∀ x ∈ slice q a z, |x| ≤ M)
    (ne : ∀ i j, i ≠ j → a i ≠ 0 → a j ≠ 0 → z i ≠ z j) :
    (volume (slice q a z)).toReal = ∑ i, (slice q a z).indicator (fun v => sgn (a i) * v) (z i) := by
  classical
  rcases (slice q a z).eq_empty_or_nonempty with h | ⟨x, hx⟩
  · rw [h]; simp
  have hq : q := hx.1
  have hP : (Finset.univ.filter fun i => 0 < a i).Nonempty := by
    by_contra n
    rw [Finset.not_nonempty_iff_eq_empty, Finset.filter_eq_empty_iff] at n
    have := hM (x + (|M| + |x| + 1)) ⟨hq, fun i => by
      have := hx.2 i
      have := n (Finset.mem_univ i)
      nlinarith [abs_nonneg M, abs_nonneg x]⟩
    have := abs_le.mp this
    linarith [le_abs_self M, neg_abs_le x]
  have hN : (Finset.univ.filter fun i => a i < 0).Nonempty := by
    by_contra n
    rw [Finset.not_nonempty_iff_eq_empty, Finset.filter_eq_empty_iff] at n
    have := hM (x - (|M| + |x| + 1)) ⟨hq, fun i => by
      have := hx.2 i
      have := n (Finset.mem_univ i)
      nlinarith [abs_nonneg M, abs_nonneg x]⟩
    have := abs_le.mp this
    linarith [le_abs_self M, le_abs_self x]
  obtain ⟨i, hi, ri⟩ := Finset.exists_min_image _ z hP
  obtain ⟨j, hj, lj⟩ := Finset.exists_max_image _ z hN
  simp only [Finset.mem_filter, Finset.mem_univ, true_and] at hi hj ri lj
  have up : ∀ {k v}, 0 < a k → (a k * (v - z k) ≤ 0 ↔ v ≤ z k) := fun hk =>
    ⟨fun h => by by_contra n; nlinarith [mul_pos hk (sub_pos.mpr (not_le.mp n))], fun h => by nlinarith⟩
  have down : ∀ {k v}, a k < 0 → (a k * (v - z k) ≤ 0 ↔ z k ≤ v) := fun hk =>
    ⟨fun h => by by_contra n; nlinarith [mul_pos (neg_pos.mpr hk) (sub_pos.mpr (not_le.mp n))], fun h => by nlinarith⟩
  have e : slice q a z = Set.Icc (z j) (z i) := by
    ext v
    refine ⟨fun h => ⟨(down hj).mp (h.2 j), (up hi).mp (h.2 i)⟩, fun h => ⟨hq, fun k => ?_⟩⟩
    rcases lt_trichotomy (a k) 0 with n | n | n
    · exact (down n).mpr ((lj k n).trans h.1)
    · rw [n, zero_mul]
    · exact (up n).mpr (h.2.trans (ri k n))
  have le : z j ≤ z i := by
    have := e ▸ hx
    exact this.1.trans this.2
  have ij : i ≠ j := fun h => by rw [h] at hi; exact lt_asymm hi hj
  have mi : z i ∈ Set.Icc (z j) (z i) := ⟨le, le_rfl⟩
  have mj : z j ∈ Set.Icc (z j) (z i) := ⟨le_rfl, le⟩
  rw [e, Real.volume_Icc, ENNReal.toReal_ofReal (sub_nonneg.mpr le)]
  rw [Finset.sum_eq_add i j ij, Set.indicator_of_mem mi, Set.indicator_of_mem mj, sgn_of_pos hi, sgn_of_neg hj]
  · ring
  · rintro k - ⟨ki, kj⟩
    rcases lt_trichotomy (a k) 0 with n | n | n
    · rw [Set.indicator_of_notMem]
      exact fun h => ne k j kj n.ne hj.ne (le_antisymm (lj k n) h.1)
    · simp [n, sgn_zero, Set.indicator]
    · rw [Set.indicator_of_notMem]
      exact fun h => ne k i ki n.ne' hi.ne' (le_antisymm h.2 (ri k n))
  · exact fun h => absurd (Finset.mem_univ _) h
  · exact fun h => absurd (Finset.mem_univ _) h

end Cert.Area
end
-- ==== Proof.Math.Green.lean ====
module
public import proofs.«01_k».proof.Proof.Math.Slice
public import Mathlib.MeasureTheory.Integral.Bochner.Set
public import Mathlib.MeasureTheory.Function.LocallyIntegrable
public import Mathlib.MeasureTheory.Measure.Prod
public import Mathlib.Tactic.FieldSimp
@[expose] public section

/-!
# The area of an intersection of half planes

`Region` is the set of the points to the left of finitely many directed lines. Its area is the
integral along its boundary: each line's part inside the region, weighted by the line's moment.
-/

open MeasureTheory

namespace Cert.Area

variable {ι : Type} [Fintype ι]

/-- Finitely many directed lines, by a point and a direction each. -/
structure Lines (ι : Type) where
  px : ι → ℝ
  py : ι → ℝ
  dx : ι → ℝ
  dy : ι → ℝ

namespace Lines

/-- How far right of the `i`-th line a point is, times the direction's length. -/
def right (L : Lines ι) (i : ι) (x y : ℝ) : ℝ := L.dy i * (x - L.px i) - L.dx i * (y - L.py i)

/-- The points that are right of none of the lines. -/
def Region (L : Lines ι) : Set (ℝ × ℝ) := {p | ∀ i, L.right i p.1 p.2 ≤ 0}

/-- The times at which the `i`-th line is inside the region. -/
def chord (L : Lines ι) (i : ι) : Set ℝ := {t | (L.px i + t * L.dx i, L.py i + t * L.dy i) ∈ L.Region}

/-- The region is bounded, every line has a direction, and no two are the same. -/
structure Good (L : Lines ι) (M : ℝ) : Prop where
  le : ∀ p ∈ L.Region, |p.1| ≤ M ∧ |p.2| ≤ M
  ne : ∀ i, L.dx i ≠ 0 ∨ L.dy i ≠ 0
  apart : ∀ i j, i ≠ j → L.dx i * L.dy j ≠ L.dx j * L.dy i ∨ L.right i (L.px j) (L.py j) ≠ 0

/-- Where the `i`-th line meets a row. -/
noncomputable def meet (L : Lines ι) (i : ι) (y : ℝ) : ℝ := L.px i + (y - L.py i) * (L.dx i / L.dy i)

/-- The rows in which the `i`-th line is inside the region. -/
def rows (L : Lines ι) (i : ι) : Set ℝ := {y | (L.meet i y, y) ∈ L.Region}

theorem closed_region (L : Lines ι) : IsClosed L.Region := by
  have : L.Region = ⋂ i, {p : ℝ × ℝ | L.right i p.1 p.2 ≤ 0} := by ext p; simp [Region]
  rw [this]
  exact isClosed_iInter fun i => isClosed_le (by unfold right; fun_prop) continuous_const

theorem continuous_meet (L : Lines ι) (i : ι) : Continuous (L.meet i) := by unfold meet; fun_prop

theorem closed_rows (L : Lines ι) (i : ι) : IsClosed (L.rows i) :=
  L.closed_region.preimage ((L.continuous_meet i).prodMk continuous_id)

theorem closed_chord (L : Lines ι) (i : ι) : IsClosed (L.chord i) := by
  refine L.closed_region.preimage (f := fun t => (L.px i + t * L.dx i, L.py i + t * L.dy i)) ?_
  fun_prop

theorem compact_of_le {S : Set ℝ} (h : IsClosed S) (K : ℝ) (b : ∀ t ∈ S, |t| ≤ K) : IsCompact S :=
  (isCompact_Icc (a := -K) (b := K)).of_isClosed_subset h fun t ht => abs_le.mp (b t ht)

theorem compact_rows {L : Lines ι} {M : ℝ} (g : L.Good M) (i : ι) : IsCompact (L.rows i) :=
  compact_of_le (L.closed_rows i) M fun _ hy => (g.le _ hy).2

theorem compact_chord {L : Lines ι} {M : ℝ} (g : L.Good M) (i : ι) : IsCompact (L.chord i) := by
  have far : ∀ p d t : ℝ, d ≠ 0 → |p + t * d| ≤ M → |t| ≤ (M + |p|) / |d| := fun p d t hd h => by
    rw [le_div_iff₀ (abs_pos.mpr hd), ← abs_mul]
    have := abs_sub (p + t * d) p
    rw [show p + t * d - p = t * d by ring] at this
    linarith
  rcases g.ne i with h | h
  · exact compact_of_le (L.closed_chord i) _ fun t ht => far _ _ t h (g.le _ ht).1
  · exact compact_of_le (L.closed_chord i) _ fun t ht => far _ _ t h (g.le _ ht).2

/-- A row of the region is a slice. -/
theorem row_eq (L : Lines ι) (y : ℝ) :
    (fun x => (x, y)) ⁻¹' L.Region = slice (∀ i, L.dy i = 0 → L.right i 0 y ≤ 0) L.dy fun i => L.meet i y := by
  have e : ∀ i x, L.dy i ≠ 0 → L.dy i * (x - L.meet i y) = L.right i x y := fun i x h => by
    unfold meet right; field_simp; ring
  have f : ∀ i x, L.dy i = 0 → L.right i x y = L.right i 0 y := fun i x h => by unfold right; rw [h]; ring
  ext x
  refine ⟨fun h => ⟨fun i hi => f i x hi ▸ h i, fun i => ?_⟩, fun h i => ?_⟩
  · by_cases hi : L.dy i = 0
    · rw [hi, zero_mul]
    · rw [e i x hi]; exact h i
  · show L.right i x y ≤ 0
    by_cases hi : L.dy i = 0
    · rw [f i x hi]; exact h.1 i hi
    · rw [← e i x hi]; exact h.2 i

/-- Two lines meet in at most one row. -/
theorem meet_ne {L : Lines ι} {M : ℝ} (g : L.Good M) :
    ∀ᵐ y : ℝ, ∀ i j, i ≠ j → L.dy i ≠ 0 → L.dy j ≠ 0 → L.meet i y ≠ L.meet j y := by
  rw [ae_all_iff]; intro i
  rw [ae_all_iff]; intro j
  by_cases ij : i = j
  · exact Filter.Eventually.of_forall fun _ h => absurd ij h
  by_cases hi : L.dy i = 0
  · exact Filter.Eventually.of_forall fun _ _ h => absurd hi h
  by_cases hj : L.dy j = 0
  · exact Filter.Eventually.of_forall fun _ _ _ h => absurd hj h
  refine measure_mono_null (t := {y | L.meet i y = L.meet j y}) (fun y hy => ?_) (Set.Subsingleton.measure_zero ?_ _)
  · by_contra n
    exact hy fun _ _ _ => n
  intro y hy z hz
  by_contra yz
  simp only [Set.mem_setOf_eq, meet] at hy hz
  have s : L.dx i / L.dy i = L.dx j / L.dy j := by
    have : (y - z) * (L.dx i / L.dy i - L.dx j / L.dy j) = 0 := by linarith
    exact sub_eq_zero.mp ((mul_eq_zero.mp this).resolve_left (sub_ne_zero.mpr yz))
  rcases g.apart i j ij with h | h
  · exact h (by rw [div_eq_div_iff hi hj] at s; linarith)
  · apply h
    rw [← s] at hy
    unfold right
    have e : L.dx i = L.dy i * (L.dx i / L.dy i) := by field_simp
    have : L.px j - L.px i = (L.py j - L.py i) * (L.dx i / L.dy i) := by linarith
    rw [this]
    field_simp
    ring

theorem integrable_rows {L : Lines ι} {M : ℝ} (g : L.Good M) (i : ι) (k : ℝ) :
    Integrable ((L.rows i).indicator fun y => k * L.meet i y) := by
  rw [integrable_indicator_iff (L.closed_rows i).measurableSet]
  exact ContinuousOn.integrableOn_compact (compact_rows g i) (continuous_const.mul (L.continuous_meet i)).continuousOn

/-- From the rows a line is in to the times. -/
theorem rows_to_chord (L : Lines ι) (i : ι) :
    ∫ y, (L.rows i).indicator (fun y => sgn (L.dy i) * L.meet i y) y =
      L.dy i * ∫ t in L.chord i, L.px i + t * L.dx i := by
  by_cases h : L.dy i = 0
  · rw [h, zero_mul]
    simp [sgn_zero]
  rw [← integral_indicator (L.closed_chord i).measurableSet]
  have e : (L.chord i).indicator (fun t => L.px i + t * L.dx i) =
      fun t => (L.rows i).indicator (L.meet i) (L.py i + L.dy i * t) := by
    have m : ∀ t, L.meet i (L.py i + L.dy i * t) = L.px i + t * L.dx i := fun t => by unfold meet; field_simp; ring
    funext t
    by_cases ht : t ∈ L.chord i
    · rw [Set.indicator_of_mem ht, Set.indicator_of_mem, m]
      show (L.meet i (L.py i + L.dy i * t), _) ∈ L.Region
      rw [m, mul_comm (L.dy i)]; exact ht
    · rw [Set.indicator_of_notMem ht, Set.indicator_of_notMem]
      intro n
      apply ht
      have n : (L.meet i (L.py i + L.dy i * t), L.py i + L.dy i * t) ∈ L.Region := n
      rw [m, mul_comm (L.dy i)] at n; exact n
  have me : MeasurableEmbedding fun t : ℝ => L.dy i * t := (Homeomorph.mulLeft₀ (L.dy i) h).measurableEmbedding
  have q := me.integral_map (μ := volume) fun s => (L.rows i).indicator (L.meet i) (L.py i + s)
  rw [Real.map_volume_mul_left h, integral_smul_measure] at q
  rw [e, ← q, (measurePreserving_add_left volume (L.py i)).integral_comp (Homeomorph.addLeft (L.py i)).measurableEmbedding
    (fun y => (L.rows i).indicator (L.meet i) y), ENNReal.toReal_ofReal (abs_nonneg _), smul_eq_mul]
  have : ∀ y, (L.rows i).indicator (fun y => sgn (L.dy i) * L.meet i y) y = sgn (L.dy i) * (L.rows i).indicator (L.meet i) y :=
    fun y => by by_cases hy : y ∈ L.rows i <;> simp [hy]
  simp only [this]
  rw [integral_const_mul, abs_inv, ← mul_assoc]
  congr 1
  have := abs_pos.mpr h
  rw [eq_mul_inv_iff_mul_eq₀ this.ne', mul_comm, abs_mul_sgn]

/-- The area, by rows. -/
theorem area_rows {L : Lines ι} {M : ℝ} (g : L.Good M) :
    (volume L.Region).toReal = ∑ i, L.dy i * ∫ t in L.chord i, L.px i + t * L.dx i := by
  rw [Measure.volume_eq_prod, Measure.prod_apply_symm L.closed_region.measurableSet,
    ← integral_toReal (measurable_measure_prodMk_right L.closed_region.measurableSet).aemeasurable]
  · rw [integral_congr_ae (g := fun y => ∑ i, (L.rows i).indicator (fun y => sgn (L.dy i) * L.meet i y) y)]
    · rw [integral_finset_sum _ fun i _ => integrable_rows g i _]
      exact Finset.sum_congr rfl fun i _ => L.rows_to_chord i
    · filter_upwards [meet_ne g] with y hy
      rw [row_eq, slice_length _ _ _ M _ hy]
      · refine Finset.sum_congr rfl fun i _ => ?_
        have : L.meet i y ∈ slice (∀ i, L.dy i = 0 → L.right i 0 y ≤ 0) L.dy (fun i => L.meet i y) ↔ y ∈ L.rows i := by
          rw [← row_eq]; rfl
        by_cases h : y ∈ L.rows i
        · rw [Set.indicator_of_mem (this.mpr h), Set.indicator_of_mem h]
        · rw [Set.indicator_of_notMem (fun n => h (this.mp n)), Set.indicator_of_notMem h]
      · intro x hx
        rw [← row_eq] at hx
        exact (g.le _ hx).1
  · refine Filter.Eventually.of_forall fun y => lt_of_le_of_lt (measure_mono (t := Set.Icc (-M) M) fun x hx => abs_le.mp (g.le _ hx).1) ?_
    rw [Real.volume_Icc]
    exact ENNReal.ofReal_lt_top

/-- The lines with the coordinates exchanged. -/
def flip (L : Lines ι) : Lines ι := ⟨L.py, L.px, fun i => -L.dy i, fun i => -L.dx i⟩

theorem flip_right (L : Lines ι) (i : ι) (x y : ℝ) : L.flip.right i y x = L.right i x y := by
  simp only [flip, right]; ring

theorem flip_region (L : Lines ι) : L.flip.Region = Prod.swap ⁻¹' L.Region := by
  ext p
  exact forall_congr' fun i => by rw [flip_right]; rfl

theorem flip_good {L : Lines ι} {M : ℝ} (g : L.Good M) : L.flip.Good M where
  le p hp := by rw [flip_region] at hp; exact (g.le _ hp).symm
  ne i := (g.ne i).symm.imp (fun h => neg_ne_zero.mpr h) fun h => neg_ne_zero.mpr h
  apart i j ij := (g.apart i j ij).imp (fun h e => h (by simp only [flip] at e; linarith)) fun h e => h (by
    have := flip_right L i (L.px j) (L.py j)
    simp only [flip] at this e
    rw [← this]; exact e)

theorem flip_chord (L : Lines ι) (i : ι) : L.flip.chord i = (fun t => -t) ⁻¹' L.chord i := by
  ext t
  simp only [chord, flip_region, Set.mem_setOf_eq, Set.mem_preimage]
  simp only [flip, Prod.swap_prod_mk, mul_neg, neg_mul]

/-- The area, by columns. -/
theorem area_columns {L : Lines ι} {M : ℝ} (g : L.Good M) :
    (volume L.Region).toReal = ∑ i, -L.dx i * ∫ t in L.chord i, L.py i + t * L.dy i := by
  have v : volume L.flip.Region = volume L.Region := by
    rw [flip_region, Measure.volume_eq_prod]
    exact Measure.measurePreserving_swap.measure_preimage L.closed_region.measurableSet.nullMeasurableSet
  rw [← v, area_rows (flip_good g)]
  refine Finset.sum_congr rfl fun i _ => ?_
  show -L.dx i * ∫ t in L.flip.chord i, L.py i + t * -L.dy i = _
  have n : MeasurePreserving (fun t : ℝ => -t) volume volume := by
    refine ⟨measurable_neg, ?_⟩
    have := Real.map_volume_mul_left (a := -1) (by norm_num)
    simpa using this
  have q := n.setIntegral_preimage_emb (Homeomorph.neg ℝ).measurableEmbedding
    (fun t => L.py i + t * L.dy i) (L.chord i)
  rw [flip_chord, ← q]
  simp only [mul_neg, neg_mul]

/-- The area is the integral along the boundary. -/
theorem area {L : Lines ι} {M : ℝ} (g : L.Good M) :
    (volume L.Region).toReal = ∑ i, 1 / 2 * (L.px i * L.dy i - L.py i * L.dx i) * (volume (L.chord i)).toReal := by
  have two : (volume L.Region).toReal + (volume L.Region).toReal =
      ∑ i, (L.px i * L.dy i - L.py i * L.dx i) * (volume (L.chord i)).toReal := by
    nth_rw 1 [area_rows g]
    rw [area_columns g, ← Finset.sum_add_distrib]
    refine Finset.sum_congr rfl fun i _ => ?_
    have c : ∀ f : ℝ → ℝ, Continuous f → IntegrableOn f (L.chord i) := fun f hf =>
      ContinuousOn.integrableOn_compact (compact_chord g i) hf.continuousOn
    rw [← integral_const_mul, ← integral_const_mul, ← integral_add (c _ (by fun_prop)) (c _ (by fun_prop))]
    have : ∀ t, L.dy i * (L.px i + t * L.dx i) + -L.dx i * (L.py i + t * L.dy i) = L.px i * L.dy i - L.py i * L.dx i := fun t => by ring
    simp only [this]
    rw [setIntegral_const, smul_eq_mul, mul_comm]
    rfl
  have : ∀ i, 1 / 2 * (L.px i * L.dy i - L.py i * L.dx i) * (volume (L.chord i)).toReal =
      1 / 2 * ((L.px i * L.dy i - L.py i * L.dx i) * (volume (L.chord i)).toReal) := fun i => by ring
  simp only [this]
  rw [← Finset.mul_sum, ← two]
  ring

end Lines

end Cert.Area
end
-- ==== Proof.Math.Area.lean ====
module
public import proofs.«01_k».proof.Proof.Math.Green
public import proofs.«01_k».proof.Proof.Math.Overlap
@[expose] public section

/-!
# The common area of two turned boxes

For two boxes no edges of which are parallel, the two boundary integrals `swept` add up to the
area (the Lebesgue measure) of the intersection.
-/

open MeasureTheory Cert.Area

namespace Cert.Overlap

/-- The points of a box. -/
def Box.Region (B : Box) : Set (ℝ × ℝ) := {p | |B.u p.1 p.2| ≤ B.w * (1 / 2) ∧ |B.v p.1 p.2| ≤ B.h * (1 / 2)}

/-- The step from a corner to the next, first coordinate. -/
noncomputable def Box.dx (B : Box) (k : Fin 4) : ℝ := B.px (k + 1) - B.px k

/-- The step from a corner to the next, second coordinate. -/
noncomputable def Box.dy (B : Box) (k : Fin 4) : ℝ := B.py (k + 1) - B.py k

/-- The sides of two boxes as directed lines. -/
noncomputable def both (A B : Box) : Lines (Fin 4 ⊕ Fin 4) :=
  ⟨Sum.elim A.px B.px, Sum.elim A.py B.py, Sum.elim A.dx B.dx, Sum.elim A.dy B.dy⟩

/-- Seen from `B`, every side of `A` climbs and advances by at least `d`. -/
def Steep (d : ℝ) (A B : Box) : Prop :=
  (d ≤ A.w * |Real.cos (A.t - B.t)| ∧ d ≤ A.w * |Real.sin (A.t - B.t)|) ∧
    d ≤ A.h * |Real.cos (A.t - B.t)| ∧ d ≤ A.h * |Real.sin (A.t - B.t)|

theorem dx_eq (A : Box) : A.dx = ![-(A.w * Real.cos A.t), A.h * Real.sin A.t, A.w * Real.cos A.t, -(A.h * Real.sin A.t)] := by
  funext k
  fin_cases k <;> simp [Box.dx, Box.px, sx, sy] <;> ring

theorem dy_eq (A : Box) : A.dy = ![-(A.w * Real.sin A.t), -(A.h * Real.cos A.t), A.w * Real.sin A.t, A.h * Real.cos A.t] := by
  funext k
  fin_cases k <;> simp [Box.dy, Box.py, sx, sy] <;> ring

/-- The distance right of a side, in the box's frame. -/
theorem right_eq (A : Box) (k : Fin 4) (x y : ℝ) :
    A.dy k * (x - A.px k) - A.dx k * (y - A.py k) =
      ![A.w * (A.v x y - A.h * (1 / 2)), -(A.h * (A.u x y + A.w * (1 / 2))), -(A.w * (A.v x y + A.h * (1 / 2))),
        A.h * (A.u x y - A.w * (1 / 2))] k := by
  have p := Real.sin_sq_add_cos_sq A.t
  rw [dx_eq, dy_eq]
  fin_cases k <;> simp [Box.px, Box.py, Box.u, Box.v, sx, sy]
  · linear_combination (-(A.w * A.h) / 2) * p
  · linear_combination (-(A.w * A.h) / 2) * p
  · linear_combination (-(A.w * A.h) / 2) * p
  · linear_combination (-(A.w * A.h) / 2) * p

/-- A box is the set of the points right of none of its sides. -/
theorem region_iff {A : Box} (w : 0 < A.w) (h : 0 < A.h) (x y : ℝ) :
    (∀ k, A.dy k * (x - A.px k) - A.dx k * (y - A.py k) ≤ 0) ↔ (x, y) ∈ A.Region := by
  simp only [right_eq]
  constructor
  · intro r
    have r0 := r 0; have r1 := r 1; have r2 := r 2; have r3 := r 3
    simp at r0 r1 r2 r3
    refine ⟨abs_le.mpr ⟨?_, ?_⟩, abs_le.mpr ⟨?_, ?_⟩⟩
    · have := nonneg_of_mul_nonneg_right r1 h; simp only; linarith
    · have := nonpos_of_mul_nonpos_right r3 h; simp only; linarith
    · have := nonneg_of_mul_nonneg_right r2 w; simp only; linarith
    · have := nonpos_of_mul_nonpos_right r0 w; simp only; linarith
  · rintro ⟨u, v⟩ k
    have u := abs_le.mp u
    have v := abs_le.mp v
    simp only at u v
    fin_cases k <;> simp
    · exact mul_nonpos_of_nonneg_of_nonpos w.le (by linarith)
    · exact mul_nonneg h.le (by linarith)
    · exact mul_nonneg w.le (by linarith)
    · exact mul_nonpos_of_nonneg_of_nonpos h.le (by linarith)

theorem both_region {A B : Box} (aw : 0 < A.w) (ah : 0 < A.h) (bw : 0 < B.w) (bh : 0 < B.h) :
    (both A B).Region = A.Region ∩ B.Region := by
  ext ⟨x, y⟩
  rw [Set.mem_inter_iff, ← region_iff aw ah, ← region_iff bw bh]
  exact Sum.forall

/-- A point of a box is not far. -/
theorem region_le {A : Box} {p : ℝ × ℝ} (h : p ∈ A.Region) :
    |p.1| ≤ |A.x| + |A.y| + A.w + A.h ∧ |p.2| ≤ |A.x| + |A.y| + A.w + A.h := by
  obtain ⟨u, v⟩ := h
  have q := Real.sin_sq_add_cos_sq A.t
  have ex : p.1 - A.x = A.u p.1 p.2 * Real.cos A.t - A.v p.1 p.2 * Real.sin A.t := by
    unfold Box.u Box.v; linear_combination (-(p.1 - A.x)) * q
  have ey : p.2 - A.y = A.u p.1 p.2 * Real.sin A.t + A.v p.1 p.2 * Real.cos A.t := by
    unfold Box.u Box.v; linear_combination (-(p.2 - A.y)) * q
  have c := Real.abs_cos_le_one A.t
  have s := Real.abs_sin_le_one A.t
  have m : ∀ {a b m : ℝ}, |a| ≤ m → |b| ≤ 1 → |a * b| ≤ m := fun ha hb => by
    rw [abs_mul]
    exact (mul_le_of_le_one_right (abs_nonneg _) hb).trans ha
  have w0 := (abs_nonneg _).trans u
  have h0 := (abs_nonneg _).trans v
  have x0 := abs_le.mp (le_refl |A.x|)
  have y0 := abs_le.mp (le_refl |A.y|)
  have uc := abs_le.mp (m u c)
  have us := abs_le.mp (m u s)
  have vc := abs_le.mp (m v c)
  have vs := abs_le.mp (m v s)
  have := abs_nonneg A.x
  have := abs_nonneg A.y
  constructor <;> refine abs_le.mpr ⟨?_, ?_⟩ <;> linarith

theorem Steep.symm_cos (A B : Box) : Real.cos (B.t - A.t) = Real.cos (A.t - B.t) := by rw [← Real.cos_neg, neg_sub]

theorem Steep.symm_sin (A B : Box) : |Real.sin (B.t - A.t)| = |Real.sin (A.t - B.t)| := by rw [← abs_neg, ← Real.sin_neg, neg_sub]

theorem pos_of_le {d a b : ℝ} (hd : 0 < d) (h : d ≤ a * |b|) : 0 < a ∧ b ≠ 0 := by
  constructor
  · by_contra n
    nlinarith [abs_nonneg b]
  · rintro rfl
    simp at h
    linarith

/-- A side of a box is not parallel to one of the other's. -/
theorem cross_ne {d : ℝ} {A B : Box} (hd : 0 < d) (sA : Steep d A B) (sB : Steep d B A) (j k : Fin 4) :
    A.dx j * B.dy k ≠ B.dx k * A.dy j := by
  obtain ⟨aw, c⟩ := pos_of_le hd sA.1.1
  obtain ⟨ah, s⟩ := pos_of_le hd sA.2.2
  obtain ⟨bw, -⟩ := pos_of_le hd sB.1.1
  obtain ⟨bh, -⟩ := pos_of_le hd sB.2.2
  have nz : ∀ {a b r : ℝ}, 0 < a → 0 < b → r ≠ 0 → a * b * r ≠ 0 := fun ha hb hr => mul_ne_zero (mul_pos ha hb).ne' hr
  rw [Real.cos_sub] at c
  rw [Real.sin_sub] at s
  have ww := nz aw bw s
  have wh := nz aw bh c
  have hw := nz ah bw c
  have hh := nz ah bh s
  rw [dx_eq, dx_eq, dy_eq, dy_eq]
  intro e
  fin_cases j <;> fin_cases k <;> simp at e <;>
    first
    | exact ww (by linear_combination e)
    | exact ww (by linear_combination -e)
    | exact wh (by linear_combination e)
    | exact wh (by linear_combination -e)
    | exact hw (by linear_combination e)
    | exact hw (by linear_combination -e)
    | exact hh (by linear_combination e)
    | exact hh (by linear_combination -e)

/-- A side has a length. -/
theorem step_ne {A : Box} (w : 0 < A.w) (h : 0 < A.h) (k : Fin 4) : A.dx k ≠ 0 ∨ A.dy k ≠ 0 := by
  by_contra n
  push Not at n
  have p := Real.sin_sq_add_cos_sq A.t
  have l : A.dx k ^ 2 + A.dy k ^ 2 = ![A.w ^ 2, A.h ^ 2, A.w ^ 2, A.h ^ 2] k := by
    rw [dx_eq, dy_eq]
    fin_cases k <;> simp
    · linear_combination A.w ^ 2 * p
    · linear_combination A.h ^ 2 * p
    · linear_combination A.w ^ 2 * p
    · linear_combination A.h ^ 2 * p
  rw [n.1, n.2] at l
  fin_cases k <;> simp at l <;> nlinarith

/-- Two sides of one box are not on one line. -/
theorem sides_apart {A : Box} (w : 0 < A.w) (h : 0 < A.h) (j k : Fin 4) (jk : j ≠ k) :
    A.dx j * A.dy k ≠ A.dx k * A.dy j ∨ A.dy j * (A.px k - A.px j) - A.dx j * (A.py k - A.py j) ≠ 0 := by
  have p := Real.sin_sq_add_cos_sq A.t
  have wh := (mul_pos w h).ne'
  rw [dx_eq, dy_eq]
  by_cases o : k = j + 2
  · right
    intro e
    subst o
    fin_cases j <;> simp [Box.px, Box.py, sx, sy] at e <;> exact wh (by linear_combination -e - (A.w * A.h) * p)
  · left
    intro e
    fin_cases j <;> fin_cases k <;> simp at jk o e <;>
      first
      | exact wh (by linear_combination e - (A.w * A.h) * p)
      | exact wh (by linear_combination -e - (A.w * A.h) * p)

theorem both_good {d : ℝ} {A B : Box} (hd : 0 < d) (sA : Steep d A B) (sB : Steep d B A) :
    (both A B).Good (|A.x| + |A.y| + A.w + A.h) := by
  have aw := (pos_of_le hd sA.1.1).1
  have ah := (pos_of_le hd sA.2.1).1
  have bw := (pos_of_le hd sB.1.1).1
  have bh := (pos_of_le hd sB.2.1).1
  refine ⟨fun p hp => ?_, ?_, ?_⟩
  · rw [both_region aw ah bw bh] at hp
    exact region_le hp.1
  · exact Sum.forall.mpr ⟨step_ne aw ah, step_ne bw bh⟩
  · rintro (i | i) (j | j) ij
    · exact sides_apart aw ah i j fun e => ij (congrArg _ e)
    · exact Or.inl (cross_ne hd sA sB i j)
    · exact Or.inl (cross_ne hd sB sA i j)
    · exact sides_apart bw bh i j fun e => ij (congrArg _ e)

/-- When a moving number is inside a slab. -/
theorem slab {W a e t : ℝ} (h : e ≠ 0) (hW : 0 ≤ W) :
    |a + t * e| ≤ W ↔ min ((-W - a) / e) ((W - a) / e) ≤ t ∧ t ≤ max ((-W - a) / e) ((W - a) / e) := by
  rw [abs_le]
  rcases lt_or_gt_of_ne h with n | n
  · have o : (W - a) / e ≤ (-W - a) / e := by
      rw [div_le_div_right_of_neg n]; linarith
    rw [min_eq_right o, max_eq_left o, div_le_iff_of_neg n, le_div_iff_of_neg n]
    constructor <;> rintro ⟨p, q⟩ <;> constructor <;> linarith
  · have o : (-W - a) / e ≤ (W - a) / e := by
      rw [div_le_div_iff_of_pos_right n]; linarith
    rw [min_eq_left o, max_eq_right o, div_le_iff₀ n, le_div_iff₀ n]
    constructor <;> rintro ⟨p, q⟩ <;> constructor <;> linarith

/-- A step that is not small is not changed. -/
theorem guard_of_le {d t : ℝ} (h : d ≤ |t|) : guard d t = t := by
  unfold guard
  split_ifs with n
  · rw [abs_of_nonneg n] at h; exact max_eq_left h
  · rw [abs_of_neg (not_le.mp n)] at h; exact min_eq_left (by linarith)

/-- A side's steps in the other box's frame. -/
theorem steep_step {d : ℝ} {A B : Box} (s : Steep d A B) (k : Fin 4) :
    d ≤ |B.u (A.px (k + 1)) (A.py (k + 1)) - B.u (A.px k) (A.py k)| ∧
      d ≤ |B.v (A.px (k + 1)) (A.py (k + 1)) - B.v (A.px k) (A.py k)| := by
  have hd : ∀ {r : ℝ}, d ≤ A.w * |r| → d ≤ |A.w * r| := fun h => by
    rw [abs_mul]; exact h.trans (mul_le_mul_of_nonneg_right (le_abs_self _) (abs_nonneg _))
  have hd' : ∀ {r : ℝ}, d ≤ A.h * |r| → d ≤ |A.h * r| := fun h => by
    rw [abs_mul]; exact h.trans (mul_le_mul_of_nonneg_right (le_abs_self _) (abs_nonneg _))
  have wc := hd s.1.1
  have ws := hd s.1.2
  have hc := hd' s.2.1
  have hs := hd' s.2.2
  have eu : B.u (A.px (k + 1)) (A.py (k + 1)) - B.u (A.px k) (A.py k) = A.dx k * Real.cos B.t + A.dy k * Real.sin B.t := by
    unfold Box.u Box.dx Box.dy; ring
  have ev : B.v (A.px (k + 1)) (A.py (k + 1)) - B.v (A.px k) (A.py k) = -A.dx k * Real.sin B.t + A.dy k * Real.cos B.t := by
    unfold Box.v Box.dx Box.dy; ring
  rw [Real.cos_sub] at wc hc
  rw [Real.sin_sub] at ws hs
  rw [eu, ev, dx_eq, dy_eq]
  have neg : ∀ {r q : ℝ}, d ≤ |r| → q = r ∨ q = -r → d ≤ |q| := fun h e => by
    rcases e with e | e <;> rw [e]
    · exact h
    · rwa [abs_neg]
  fin_cases k <;> simp
  · exact ⟨neg wc (Or.inr (by ring)), neg ws (Or.inr (by ring))⟩
  · exact ⟨neg hs (Or.inl (by ring)), neg hc (Or.inr (by ring))⟩
  · exact ⟨neg wc (Or.inl (by ring)), neg ws (Or.inl (by ring))⟩
  · exact ⟨neg hs (Or.inr (by ring)), neg hc (Or.inl (by ring))⟩

/-- A side's points in its own box are those between its two corners. -/
theorem own_chord {A : Box} (w : 0 < A.w) (h : 0 < A.h) (k : Fin 4) (t : ℝ) :
    (A.px k + t * A.dx k, A.py k + t * A.dy k) ∈ A.Region ↔ 0 ≤ t ∧ t ≤ 1 := by
  have p := Real.sin_sq_add_cos_sq A.t
  have hu : A.u (A.px k + t * A.dx k) (A.py k + t * A.dy k) =
      ![A.w * (1 / 2 - t), -(A.w * (1 / 2)), A.w * (t - 1 / 2), A.w * (1 / 2)] k := by
    rw [dx_eq, dy_eq]
    fin_cases k <;> simp [Box.u, Box.px, Box.py, sx, sy]
    · linear_combination (A.w * (1 / 2 - t)) * p
    · linear_combination (-(A.w * (1 / 2))) * p
    · linear_combination (A.w * (t - 1 / 2)) * p
    · linear_combination (A.w * (1 / 2)) * p
  have hv : A.v (A.px k + t * A.dx k) (A.py k + t * A.dy k) =
      ![A.h * (1 / 2), A.h * (1 / 2 - t), -(A.h * (1 / 2)), A.h * (t - 1 / 2)] k := by
    rw [dx_eq, dy_eq]
    fin_cases k <;> simp [Box.v, Box.px, Box.py, sx, sy]
    · linear_combination (A.h * (1 / 2)) * p
    · linear_combination (A.h * (1 / 2 - t)) * p
    · linear_combination (-(A.h * (1 / 2))) * p
    · linear_combination (A.h * (t - 1 / 2)) * p
  have unit : ∀ {l r : ℝ}, 0 < l → (|l * r| ≤ l * (1 / 2) ↔ |r| ≤ 1 / 2) := fun hl => by
    rw [abs_mul, abs_of_pos hl]; exact mul_le_mul_iff_right₀ hl
  have full : ∀ {l : ℝ}, 0 < l → |l * (1 / 2)| ≤ l * (1 / 2) := fun hl => (abs_of_pos (by positivity)).le
  have full' : ∀ {l : ℝ}, 0 < l → |-(l * (1 / 2))| ≤ l * (1 / 2) := fun hl => by rw [abs_neg]; exact full hl
  have r1 : |1 / 2 - t| ≤ 1 / 2 ↔ 0 ≤ t ∧ t ≤ 1 := by
    rw [abs_le]; constructor <;> rintro ⟨a, b⟩ <;> constructor <;> linarith
  have r2 : |t - 1 / 2| ≤ 1 / 2 ↔ 0 ≤ t ∧ t ≤ 1 := by
    rw [abs_le]; constructor <;> rintro ⟨a, b⟩ <;> constructor <;> linarith
  show |A.u _ _| ≤ _ ∧ |A.v _ _| ≤ _ ↔ _
  rw [hu, hv]
  fin_cases k
  · exact (and_iff_left (full h)).trans ((unit w).trans r1)
  · exact (and_iff_right (full' w)).trans ((unit h).trans r1)
  · exact (and_iff_left (full' h)).trans ((unit w).trans r2)
  · exact (and_iff_right (full w)).trans ((unit h).trans r2)

theorem length_of_iff {S : Set ℝ} {a b : ℝ} (h : ∀ t, t ∈ S ↔ a ≤ t ∧ t ≤ b) : (volume S).toReal = max (b - a) 0 := by
  rw [show S = Set.Icc a b from Set.ext h, Real.volume_Icc, ENNReal.toReal_ofReal']

/-- The length of a side's part in both boxes. -/
theorem chord_length {d : ℝ} {A B : Box} (hd : 0 < d) (s : Steep d A B) (bw : 0 < B.w) (bh : 0 < B.h) (k : Fin 4) :
    (volume {t | (A.px k + t * A.dx k, A.py k + t * A.dy k) ∈ A.Region ∩ B.Region}).toReal =
      inside d (B.w * (1 / 2)) (B.h * (1 / 2)) (B.u (A.px k) (A.py k)) (B.v (A.px k) (A.py k))
        (B.u (A.px (k + 1)) (A.py (k + 1))) (B.v (A.px (k + 1)) (A.py (k + 1))) := by
  have aw := (pos_of_le hd s.1.1).1
  have ah := (pos_of_le hd s.2.1).1
  obtain ⟨su, sv⟩ := steep_step s k
  have gu := guard_of_le su
  have gv := guard_of_le sv
  unfold inside
  rw [gu, gv]
  have nu := abs_pos.mp (hd.trans_le su)
  have nv := abs_pos.mp (hd.trans_le sv)
  have pu : ∀ t, B.u (A.px k + t * A.dx k) (A.py k + t * A.dy k) =
      B.u (A.px k) (A.py k) + t * (B.u (A.px (k + 1)) (A.py (k + 1)) - B.u (A.px k) (A.py k)) := fun t => by
    unfold Box.u Box.dx Box.dy; ring
  have pv : ∀ t, B.v (A.px k + t * A.dx k) (A.py k + t * A.dy k) =
      B.v (A.px k) (A.py k) + t * (B.v (A.px (k + 1)) (A.py (k + 1)) - B.v (A.px k) (A.py k)) := fun t => by
    unfold Box.v Box.dx Box.dy; ring
  refine length_of_iff fun t => ?_
  rw [Set.mem_setOf_eq, Set.mem_inter_iff, own_chord aw ah]
  show (0 ≤ t ∧ t ≤ 1) ∧ (|B.u _ _| ≤ _ ∧ |B.v _ _| ≤ _) ↔ _
  rw [pu, pv, slab nu (by linarith), slab nv (by linarith)]
  rw [show ∀ a b c d e f : Prop, ((a ∧ b) ∧ (c ∧ d) ∧ e ∧ f) ↔ (((a ∧ c) ∧ e) ∧ ((b ∧ d) ∧ f)) from by tauto]
  rw [← max_le_iff, ← max_le_iff, ← le_min_iff, ← le_min_iff]

/-- The two boundary integrals add up to the area of the intersection. -/
theorem swept_eq_area {d : ℝ} {A B : Box} (hd : 0 < d) (sA : Steep d A B) (sB : Steep d B A) :
    swept d A B + swept d B A = (volume (A.Region ∩ B.Region)).toReal := by
  have aw := (pos_of_le hd sA.1.1).1
  have ah := (pos_of_le hd sA.2.1).1
  have bw := (pos_of_le hd sB.1.1).1
  have bh := (pos_of_le hd sB.2.1).1
  have r := both_region aw ah bw bh
  have q := Lines.area (both_good hd sA sB)
  rw [r, Fintype.sum_sum_type] at q
  rw [q]
  unfold swept
  congr 1
  · refine Finset.sum_congr rfl fun k _ => ?_
    rw [← chord_length hd sA bw bh k]
    have : (both A B).chord (Sum.inl k) = {t | (A.px k + t * A.dx k, A.py k + t * A.dy k) ∈ A.Region ∩ B.Region} := by
      unfold Lines.chord; rw [r]; rfl
    rw [this]
    congr 1
    simp only [both, Sum.elim_inl, Box.dx, Box.dy]
    ring
  · refine Finset.sum_congr rfl fun k _ => ?_
    rw [← chord_length hd sB aw ah k]
    have : (both A B).chord (Sum.inr k) = {t | (B.px k + t * B.dx k, B.py k + t * B.dy k) ∈ B.Region ∩ A.Region} := by
      unfold Lines.chord; rw [r, Set.inter_comm]; rfl
    rw [this]
    congr 1
    simp only [both, Sum.elim_inr, Box.dx, Box.dy]
    ring

/-- The sides of one box as directed lines. -/
noncomputable def Box.lines (A : Box) : Lines (Fin 4) := ⟨A.px, A.py, A.dx, A.dy⟩

/-- The area of a box is the product of its sides. -/
theorem Box.area {A : Box} (w : 0 < A.w) (h : 0 < A.h) : (volume A.Region).toReal = A.w * A.h := by
  have r : A.lines.Region = A.Region := by
    ext ⟨x, y⟩
    exact region_iff w h x y
  have good : A.lines.Good (|A.x| + |A.y| + A.w + A.h) :=
    ⟨fun p hp => region_le (r ▸ hp), step_ne w h, fun j k => sides_apart w h j k⟩
  have q := Lines.area good
  have one : ∀ k, (volume (A.lines.chord k)).toReal = 1 := fun k => by
    have := length_of_iff (S := A.lines.chord k) (a := 0) (b := 1) fun t => by
      rw [← own_chord w h k t, ← r]; rfl
    rw [this]; norm_num
  rw [r] at q
  rw [q, Fin.sum_univ_four]
  simp only [one]
  simp only [Box.lines, dx_eq, dy_eq]
  have p := Real.sin_sq_add_cos_sq A.t
  simp [Box.px, Box.py, sx, sy]
  linear_combination (A.w * A.h) * p

/-- The intersection is not larger than a box. -/
theorem inter_le {A B : Box} (w : 0 < A.w) (h : 0 < A.h) : (volume (A.Region ∩ B.Region)).toReal ≤ A.w * A.h := by
  have a := Box.area w h
  have fin : volume A.Region ≠ ⊤ := fun e => by
    rw [e, ENNReal.toReal_top] at a
    exact (mul_pos w h).ne a
  rw [← a]
  exact ENNReal.toReal_mono fin (measure_mono Set.inter_subset_left)

end Cert.Overlap
end
-- ==== Proof.Value.Exact.lean ====
module
public import proofs.«01_k».proof.Proof.Value.ResultK
public import proofs.«01_k».proof.Proof.Value.ResultR
public import proofs.«01_k».proof.Proof.Math.Area
@[expose] public section
set_option maxRecDepth 16384
set_option maxHeartbeats 400000

/-!
# The result in terms of areas

For real boxes no edges of which are parallel, the overlaps both programs compare with the
threshold are the areas (Lebesgue measures) of the intersections over those of the unions. So both
programs return the non-maximum suppression by these areas.
-/

open Idealize.ShloMosaic Idealize.ShloMosaic.TcCoe Cert.Overlap MeasureTheory

namespace Cert.Value

/-- The area of the intersection over the area of the union and the constant 1e-9. -/
noncomputable def iou (A B : Box) : ℝ :=
  (volume (A.Region ∩ B.Region)).toReal /
    ((volume A.Region).toReal + (volume B.Region).toReal - (volume (A.Region ∩ B.Region)).toReal + slack)

/-- The ratio by quotients is the ratio of the areas. -/
theorem ratio_eq_iou {A B : Box} (sA : Steep tiny A B) (sB : Steep tiny B A) :
    Wide.ratio (Wide.ofReal A) (Wide.ofReal B) (Wide.swept (Wide.ofReal A) (Wide.ofReal B) + Wide.swept (Wide.ofReal B) (Wide.ofReal A)) =
      ((iou A B : ℝ) : EReal) := by
  have aw := (pos_of_le tiny_pos sA.1.1).1
  have ah := (pos_of_le tiny_pos sA.2.1).1
  have bw := (pos_of_le tiny_pos sB.1.1).1
  have bh := (pos_of_le tiny_pos sB.2.1).1
  rw [Wide.swept_ofReal, Wide.swept_ofReal, ← EReal.coe_add, swept_eq_area tiny_pos sA sB]
  have v0 : 0 ≤ (volume (A.Region ∩ B.Region)).toReal := ENNReal.toReal_nonneg
  have v1 : (volume (A.Region ∩ B.Region)).toReal ≤ A.w * A.h := inter_le aw ah
  unfold iou
  rw [Box.area aw ah, Box.area bw bh]
  generalize (volume (A.Region ∩ B.Region)).toReal = V at v0 v1 ⊢
  have d : 0 < A.w * A.h + B.w * B.h - V + slack := by
    have := mul_pos bw bh
    have := slack_pos
    linarith
  rw [← div_ne_coe _ _ d.ne']
  unfold Wide.ratio Wide.abs
  rw [← EReal.coe_neg, max_coe, max_eq_left (by linarith)]
  rfl

variable (B : Fin 1000 → Box) (g : Fin 1000 → EReal)

/-- Whether two boxes, by their places in the order of the scores, overlap by more than the threshold, by areas. -/
noncomputable def beyond (a b : Fin 1000) : Bool :=
  decide (thr < ((iou (B (Rank.place (byScore g) a)) (B (Rank.place (byScore g) b)) : ℝ) : EReal))

/-- The result of the suppression by areas. -/
noncomputable def exactly : Fin 1000 → BitVec 32 := listed (Keep.supp (beyond B g) 1000) g

/-- The suppression asks only for the overlap of a box with a later one. -/
theorem supp_congr (o o' : Fin 1000 → Fin 1000 → Bool) (h : ∀ a b, a ≠ b → o a b = o' a b) (k : Nat) : Keep.supp o k = Keep.supp o' k := by
  induction k with
  | zero => rfl
  | succ k ih =>
    funext c
    unfold Keep.supp
    rw [ih]
    split
    · rename_i hk
      by_cases e : k < c.val
      · rw [h ⟨k, hk⟩ c fun n => by rw [← n] at e; exact lt_irrefl _ e]
      · simp [e]
    · rfl

/-- On boxes without parallel edges the result is the one by areas. -/
theorem verdict_exact (s : ∀ i j, i ≠ j → Steep tiny (B i) (B j)) : verdict (fun a => Wide.ofReal (B a)) g = exactly B g := by
  have e : gone (fun a => Wide.ofReal (B a)) g = Keep.supp (beyond B g) 1000 := by
    refine supp_congr _ _ (fun a b ab => ?_) 1000
    have ne : Rank.place (byScore g) a ≠ Rank.place (byScore g) b := fun n => ab (Rank.place_injective _ n)
    unfold over beyond
    rw [ratio_eq_iou (s _ _ ne) (s _ _ ne.symm)]
  funext i
  rw [verdict, e, exactly]

end Cert.Value
end
-- ==== Proof.Value.Algebraic.lean ====
module
public import proofs.«01_k».proof.Defs
public import proofs.«01_k».proof.Proof.Value.ResultK
public import proofs.«01_k».proof.Proof.Value.ResultR
public import proofs.«01_k».proof.Proof.Value.Exact
public import proofs.«01_k».proof.Proof.Value.Pre
@[expose] public section
set_option maxRecDepth 16384
set_option maxHeartbeats 400000

/-!
# The two programs return the same indices

Both results are `verdict` of the boxes. For real boxes without parallel edges this is the suppression by areas.
-/

open Idealize.ShloMosaic Idealize.ShloMosaic.TcCoe Idealize.SL.Sem
open Cert Cert.Overlap

namespace Cert.Value

/-- The precondition puts the boxes in range. -/
theorem in_range (x : FVec Ideal Cert.KernelIdeal.S1000x5 .f32) (g : FVec Ideal Cert.KernelIdeal.S1000 .f32)
    (h : Cert.Pre_boxes_in_range.fn (F := Ideal) x g = fun _ => 1#1) : InRange x g :=
  have p := pre_read x g h
  ⟨fun a => by rw [← ofBits_side]; exact p.1 a 0, fun a => by rw [← ofBits_side]; exact p.1 a 1, p.2⟩

/-- The kernel and the reference end with equal results. -/
theorem same_results : Cert.algebraic_KernelIdeal_ReferenceIdeal_pre_boxes_in_range (hKernelIdeal := Cert.KernelIdeal.Gen.facts)
    (hReferenceIdeal := Cert.ReferenceIdeal.Gen.facts) (hPre_boxes_in_range := preFacts) := by
  intro m ρ m' ρ' pre args
  refine ⟨_, run_result m ρ, (θ_run _ _ _).mono (fun r h c => ⟨(h c).1.trans ?_, (h c).2⟩) (Cert.ReferenceIdeal.Value.run m' ρ')⟩
  obtain ⟨ex, eg⟩ := args c
  have hB := in_range _ _ (pre c)
  generalize hx : m ((c.tc : Thread Cert.KernelIdeal.nD Cert.KernelIdeal.τ).loc Cert.KernelIdeal.main_arg0) = x at ex hB
  generalize hg : m ((c.tc : Thread Cert.KernelIdeal.nD Cert.KernelIdeal.τ).loc Cert.KernelIdeal.main_arg1) = g at eg hB
  have e : StableHlo.entryContents Cert.ReferenceIdeal.Value.preI m' c = before (fun b => m' (c, b)) := by
    simp only [StableHlo.entryContents, StableHlo.afterL_cons, StableHlo.afterL_nil]
  have k := result_ref (fun b => m' (c, b)) x g (wide x) ex eg (fun _ => rfl) (fun _ => rfl) (fun _ => rfl) (fun _ => rfl) (fun _ => rfl) (fun _ => rfl)
    ((e ▸ Cert.ReferenceIdeal.Value.iter_main_arg1 m' c 1000 : _).trans eg)
  rw [e]
  funext i
  rw [show i = ix1 (i 0) from funext fun j => by fin_cases j; rfl]
  exact (k _).trans ((result_entry m c _).trans (answer_entry m c x g hx hg hB _)).symm

/-- The table `x` holds the real boxes `B`. -/
def Holds (x : FVec Ideal Cert.KernelIdeal.S1000x5 .f32) (B : Fin 1000 → Box) : Prop :=
  ∀ a, x (ix2 a 0) = (B a).x ∧ x (ix2 a 1) = (B a).y ∧ x (ix2 a 2) = (B a).w ∧ x (ix2 a 3) = (B a).h ∧ x (ix2 a 4) = (B a).t

theorem wide_of_holds {x : FVec Ideal Cert.KernelIdeal.S1000x5 .f32} {B : Fin 1000 → Box} (h : Holds x B) :
    wide x = fun a => Wide.ofReal (B a) := by
  funext a
  obtain ⟨h0, h1, h2, h3, h4⟩ := h a
  unfold wide
  rw [h0, h1, h2, h3, h4]
  rfl

/-- For real boxes in range, of which no two have parallel edges, every run of the kernel ends with the result of the
suppression by areas: of the intersections over the unions, as Lebesgue measures. -/
theorem kernel_exact (m : (ℓ : Loc Cert.KernelIdeal.nD Cert.KernelIdeal.τ Cert.KernelIdeal.sig) → Buf (Elt Ideal) ℓ) (ρ : Dev Cert.KernelIdeal.nD → PrngReg)
    (pre : Cert.Pre_KernelIdeal_boxes_in_range (hPre_boxes_in_range := preFacts) m)
    (x : Dev Cert.KernelIdeal.nD → FVec Ideal Cert.KernelIdeal.S1000x5 .f32) (g : Dev Cert.KernelIdeal.nD → FVec Ideal Cert.KernelIdeal.S1000 .f32)
    (hx : ∀ c : Dev Cert.KernelIdeal.nD, m ((c.tc : Thread Cert.KernelIdeal.nD Cert.KernelIdeal.τ).loc Cert.KernelIdeal.main_arg0) = x c)
    (hg : ∀ c : Dev Cert.KernelIdeal.nD, m ((c.tc : Thread Cert.KernelIdeal.nD Cert.KernelIdeal.τ).loc Cert.KernelIdeal.main_arg1) = g c)
    (B : Dev Cert.KernelIdeal.nD → Fin 1000 → Box)
    (holds : ∀ c, Holds (x c) (B c))
    (steep : ∀ c i j, i ≠ j → Steep tiny (B c i) (B c j)) :
    θ_run Cert.KernelIdeal.defs (onTc (τ := Cert.KernelIdeal.τ) (Cert.KernelIdeal.main (F := Ideal))) ⟨m, fun _ => 0, ρ⟩ (fun r =>
      ∀ (c : Dev Cert.KernelIdeal.nD) (i : Fin 1000),
        (r.2.mem ((c.tc : Thread Cert.KernelIdeal.nD Cert.KernelIdeal.τ).loc Cert.KernelIdeal.main_v31) : Vec Ideal Cert.KernelIdeal.S1000 .i32) (ix1 i) =
          exactly (B c) (fun k => g c (ix1 k)) i) := by
  refine (θ_run _ _ _).mono (fun r h c i => ?_) (run_result m ρ)
  have p := pre c
  have hB : InRange (x c) (g c) := in_range _ _ (by rw [← hx c, ← hg c]; exact p)
  refine (congrFun (h c).1 _).trans ((result_entry m c _).trans ((answer_entry m c (x c) (g c) (hx c) (hg c) hB _).trans ?_))
  rw [wide_of_holds (holds c), verdict_exact _ _ (steep c)]

end Cert.Value
end
-- ==== Proof.lean ====
module

public import proofs.«01_k».proof.Defs
public import proofs.«01_k».proof.Proof.Body.KernelFrame
public import proofs.«01_k».proof.Proof.Body.KernelIdealFrame
public import proofs.«01_k».proof.Proof.Value.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- Every run of the reference ends with its arguments unchanged and every counter at zero. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The certificate's claims, together. -/
theorem claim : Cert.Claim :=
  ⟨Cert.Kernel.Gen.facts, Cert.KernelIdeal.Gen.facts, Cert.ReferenceIdeal.Gen.facts, Cert.Value.preFacts,
    fun m g _ => Cert.Kernel.Body.frame m g, fun m g _ => Cert.KernelIdeal.Body.frame m g,
    fun m g _ => Cert.KernelIdeal.Body.frame m g, reference_frame,
    fun m g _ => reference_frame m g trivial, trivial, Cert.Value.same_results⟩

end Cert.Proof

end
